-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S4x256x2048 : Shape := ⟨3, ![4, 256, 2048]⟩
abbrev S3x2 : Shape := ⟨2, ![3, 2]⟩
abbrev S_ : Shape := ⟨0, ![]⟩
abbrev S256x1024 : Shape := ⟨2, ![256, 1024]⟩
abbrev S256x2048 : Shape := ⟨2, ![256, 2048]⟩
abbrev S1x256x2048 : Shape := ⟨3, ![1, 256, 2048]⟩
abbrev S1x1 : Shape := ⟨2, ![1, 1]⟩
abbrev S1x128x2048 : Shape := ⟨3, ![1, 128, 2048]⟩
abbrev S128x2048 : Shape := ⟨2, ![128, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S4x256x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let v42 : Index := Scalar.indexCast v41
  let c0 : Index := 0#32
  ![v42.toNat, 0]
def k0_off2 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v52 : BitVec 32 := Scalar.addi v2 c1_i32_31
  let c4_i32_32 : BitVec 32 := 4#32
  let c0_i32_33 : BitVec 32 := 0#32
  let v53 : BitVec 1 := Scalar.cmpi .eq c4_i32_32 c0_i32_33
  let c1_i32_34 : BitVec 32 := 1#32
  let v54 : BitVec 32 := Scalar.select v53 c1_i32_34 c4_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c256_i32_38 : BitVec 32 := 256#32
  let v63 : BitVec 32 := Scalar.muli v62 c256_i32_38
  let v64 : BitVec 32 := Scalar.addi c1024_i32 v63
  let v65 : Index := Scalar.indexCast v64
  let c0_39 : Index := 0#32
  ![v65.toNat, 0]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_52 : BitVec 32 := 1#32
  let v75 : BitVec 32 := Scalar.muli v24 c1_i32_52
  let v76 : BitVec 32 := Scalar.addi c0_i32_53 v75
  v76.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v85 : BitVec 32 := Scalar.muli v13 c1_i32_64
  let v86 : BitVec 32 := Scalar.addi c0_i32_65 v85
  v86.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_76 : BitVec 32 := 1#32
  let v95 : BitVec 32 := Scalar.muli v24 c1_i32_76
  let v96 : BitVec 32 := Scalar.addi c0_i32_77 v95
  v96.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v105 : BitVec 32 := Scalar.muli v13 c1_i32_87
  let v106 : BitVec 32 := Scalar.addi c0_i32_88 v105
  v106.toNat
def k0_off3 (d0 : Dev nD) (c0_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v115 : BitVec 32 := Scalar.subi v2 c2_i32_93
  let v116 : BitVec 32 := Scalar.subi v115 c0_i32_94
  let c4_i32_95 : BitVec 32 := 4#32
  let c0_i32_96 : BitVec 32 := 0#32
  let v117 : BitVec 1 := Scalar.cmpi .eq c4_i32_95 c0_i32_96
  let c1_i32_97 : BitVec 32 := 1#32
  let v118 : BitVec 32 := Scalar.select v117 c1_i32_97 c4_i32_95
  let v119 : BitVec 32 := Scalar.remsi v116 v118
  let c0_i32_99 : BitVec 32 := 0#32
  let v121 : BitVec 1 := Scalar.cmpi .slt v119 c0_i32_99
  let c0_i32_100 : BitVec 32 := 0#32
  let v122 : BitVec 1 := Scalar.cmpi .slt v118 c0_i32_100
  let v123 : BitVec 1 := Scalar.xori v121 v122
  let c0_i32_98 : BitVec 32 := 0#32
  let v120 : BitVec 1 := Scalar.cmpi .ne v119 c0_i32_98
  let v124 : BitVec 1 := Scalar.andi v123 v120
  let v125 : BitVec 32 := Scalar.addi v119 v118
  let v126 : BitVec 32 := Scalar.select v124 v125 v119
  let c256_i32_101 : BitVec 32 := 256#32
  let v127 : BitVec 32 := Scalar.muli v126 c256_i32_101
  let v128 : Index := Scalar.indexCast v127
  let c0_102 : Index := 0#32
  ![v128.toNat, 0]
def k0_off4 (d0 : Dev nD) (c0_i32_107 : BitVec 32) : Fin 2 → Nat :=
  let c1024_i32_115 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_106 : BitVec 32 := 2#32
  let v134 : BitVec 32 := Scalar.addi v2 c2_i32_106
  let v135 : BitVec 32 := Scalar.addi v134 c0_i32_107
  let c4_i32_108 : BitVec 32 := 4#32
  let c0_i32_109 : BitVec 32 := 0#32
  let v136 : BitVec 1 := Scalar.cmpi .eq c4_i32_108 c0_i32_109
  let c1_i32_110 : BitVec 32 := 1#32
  let v137 : BitVec 32 := Scalar.select v136 c1_i32_110 c4_i32_108
  let v138 : BitVec 32 := Scalar.remsi v135 v137
  let c0_i32_112 : BitVec 32 := 0#32
  let v140 : BitVec 1 := Scalar.cmpi .slt v138 c0_i32_112
  let c0_i32_113 : BitVec 32 := 0#32
  let v141 : BitVec 1 := Scalar.cmpi .slt v137 c0_i32_113
  let v142 : BitVec 1 := Scalar.xori v140 v141
  let c0_i32_111 : BitVec 32 := 0#32
  let v139 : BitVec 1 := Scalar.cmpi .ne v138 c0_i32_111
  let v143 : BitVec 1 := Scalar.andi v142 v139
  let v144 : BitVec 32 := Scalar.addi v138 v137
  let v145 : BitVec 32 := Scalar.select v143 v144 v138
  let c256_i32_114 : BitVec 32 := 256#32
  let v146 : BitVec 32 := Scalar.muli v145 c256_i32_114
  let v147 : BitVec 32 := Scalar.addi c1024_i32_115 v146
  let v148 : Index := Scalar.indexCast v147
  let c0_116 : Index := 0#32
  ![v148.toNat, 0]
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_180 : BitVec 32 := 1#32
  let v196 : BitVec 32 := Scalar.muli v24 c1_i32_180
  let v197 : BitVec 32 := Scalar.addi c0_i32_181 v196
  v197.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_195 : BitVec 32 := 1#32
  let v210 : BitVec 32 := Scalar.muli v13 c1_i32_195
  let v211 : BitVec 32 := Scalar.addi c0_i32_196 v210
  v211.toNat
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_261 : BitVec 32 := 1#32
  let v262 : BitVec 32 := Scalar.muli v24 c1_i32_261
  let v263 : BitVec 32 := Scalar.addi c0_i32_262 v262
  v263.toNat
def k0_dev10 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_276 : BitVec 32 := 1#32
  let v276 : BitVec 32 := Scalar.muli v13 c1_i32_276
  let v277 : BitVec 32 := Scalar.addi c0_i32_277 v276
  v277.toNat
def k0_dev11 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_368 : BitVec 32 := 1#32
  let v367 : BitVec 32 := Scalar.muli v24 c1_i32_368
  let v368 : BitVec 32 := Scalar.addi c0_i32_369 v367
  v368.toNat
def k0_dev12 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_383 : BitVec 32 := 1#32
  let v381 : BitVec 32 := Scalar.muli v13 c1_i32_383
  let v382 : BitVec 32 := Scalar.addi c0_i32_384 v381
  v382.toNat
def k0_dev13 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_450 : BitVec 32 := 1#32
  let v433 : BitVec 32 := Scalar.muli v24 c1_i32_450
  let v434 : BitVec 32 := Scalar.addi c0_i32_451 v433
  v434.toNat
def k0_dev14 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_465 : BitVec 32 := 1#32
  let v447 : BitVec 32 := Scalar.muli v13 c1_i32_465
  let v448 : BitVec 32 := Scalar.addi c0_i32_466 v447
  v448.toNat
def k0_off5 (d0 : Dev nD) (c0_i32_550 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_549 : BitVec 32 := 256#32
  let v536 : BitVec 32 := Scalar.muli v2 c256_i32_549
  let v537 : BitVec 32 := Scalar.addi v536 c0_i32_550
  let v538 : Index := Scalar.indexCast v537
  let c0_551 : Index := 0#32
  ![v538.toNat, 0]
def k0_dev15 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_561 : BitVec 32 := 1#32
  let v544 : BitVec 32 := Scalar.muli v24 c1_i32_561
  let v545 : BitVec 32 := Scalar.addi c0_i32_562 v544
  v545.toNat
def k0_off6 (d0 : Dev nD) (c0_i32_569 : BitVec 32) : Fin 2 → Nat :=
  let c1024_i32_568 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_567 : BitVec 32 := 256#32
  let v556 : BitVec 32 := Scalar.muli v2 c256_i32_567
  let v557 : BitVec 32 := Scalar.addi c1024_i32_568 v556
  let v558 : BitVec 32 := Scalar.addi v557 c0_i32_569
  let v559 : Index := Scalar.indexCast v558
  let c0_570 : Index := 0#32
  ![v559.toNat, 0]
def k0_dev16 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_580 : BitVec 32 := 1#32
  let v565 : BitVec 32 := Scalar.muli v13 c1_i32_580
  let v566 : BitVec 32 := Scalar.addi c0_i32_581 v565
  v566.toNat
def k0_dev17 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_650 : BitVec 32 := 1#32
  let v623 : BitVec 32 := Scalar.muli v24 c1_i32_650
  let v624 : BitVec 32 := Scalar.addi c0_i32_651 v623
  v624.toNat
def k0_dev18 (d0 : Dev nD) : Nat :=
  let c0_i32_670 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_669 : BitVec 32 := 1#32
  let v644 : BitVec 32 := Scalar.muli v13 c1_i32_669
  let v645 : BitVec 32 := Scalar.addi c0_i32_670 v644
  v645.toNat
def k0_dev19 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_743 : BitVec 32 := 1#32
  let v706 : BitVec 32 := Scalar.muli v24 c1_i32_743
  let v707 : BitVec 32 := Scalar.addi c0_i32_744 v706
  v707.toNat
def k0_dev20 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_755 : BitVec 32 := 1#32
  let v716 : BitVec 32 := Scalar.muli v13 c1_i32_755
  let v717 : BitVec 32 := Scalar.addi c0_i32_756 v716
  v717.toNat
def k0_off7 (d0 : Dev nD) (c0_i32_675 : BitVec 32) (c0_i32_765 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v654 : BitVec 32 := Scalar.subi v2 c0_i32_675
  let c1_i32_676 : BitVec 32 := 1#32
  let v655 : BitVec 32 := Scalar.subi v654 c1_i32_676
  let c4_i32_677 : BitVec 32 := 4#32
  let c0_i32_678 : BitVec 32 := 0#32
  let v656 : BitVec 1 := Scalar.cmpi .eq c4_i32_677 c0_i32_678
  let c1_i32_679 : BitVec 32 := 1#32
  let v657 : BitVec 32 := Scalar.select v656 c1_i32_679 c4_i32_677
  let v658 : BitVec 32 := Scalar.remsi v655 v657
  let c0_i32_681 : BitVec 32 := 0#32
  let v660 : BitVec 1 := Scalar.cmpi .slt v658 c0_i32_681
  let c0_i32_682 : BitVec 32 := 0#32
  let v661 : BitVec 1 := Scalar.cmpi .slt v657 c0_i32_682
  let v662 : BitVec 1 := Scalar.xori v660 v661
  let c0_i32_680 : BitVec 32 := 0#32
  let v659 : BitVec 1 := Scalar.cmpi .ne v658 c0_i32_680
  let v663 : BitVec 1 := Scalar.andi v662 v659
  let v664 : BitVec 32 := Scalar.addi v658 v657
  let v665 : BitVec 32 := Scalar.select v663 v664 v658
  let c256_i32_764 : BitVec 32 := 256#32
  let v729 : BitVec 32 := Scalar.muli v665 c256_i32_764
  let v730 : BitVec 32 := Scalar.addi v729 c0_i32_765
  let v731 : Index := Scalar.indexCast v730
  let c0_766 : Index := 0#32
  ![v731.toNat, 0]
def k0_off8 (d0 : Dev nD) (c0_i32_683 : BitVec 32) (c0_i32_772 : BitVec 32) : Fin 2 → Nat :=
  let c1024_i32_771 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v666 : BitVec 32 := Scalar.addi v2 c0_i32_683
  let c1_i32_684 : BitVec 32 := 1#32
  let v667 : BitVec 32 := Scalar.addi v666 c1_i32_684
  let c4_i32_685 : BitVec 32 := 4#32
  let c0_i32_686 : BitVec 32 := 0#32
  let v668 : BitVec 1 := Scalar.cmpi .eq c4_i32_685 c0_i32_686
  let c1_i32_687 : BitVec 32 := 1#32
  let v669 : BitVec 32 := Scalar.select v668 c1_i32_687 c4_i32_685
  let v670 : BitVec 32 := Scalar.remsi v667 v669
  let c0_i32_689 : BitVec 32 := 0#32
  let v672 : BitVec 1 := Scalar.cmpi .slt v670 c0_i32_689
  let c0_i32_690 : BitVec 32 := 0#32
  let v673 : BitVec 1 := Scalar.cmpi .slt v669 c0_i32_690
  let v674 : BitVec 1 := Scalar.xori v672 v673
  let c0_i32_688 : BitVec 32 := 0#32
  let v671 : BitVec 1 := Scalar.cmpi .ne v670 c0_i32_688
  let v675 : BitVec 1 := Scalar.andi v674 v671
  let v676 : BitVec 32 := Scalar.addi v670 v669
  let v677 : BitVec 32 := Scalar.select v675 v676 v670
  let c256_i32_770 : BitVec 32 := 256#32
  let v736 : BitVec 32 := Scalar.muli v677 c256_i32_770
  let v737 : BitVec 32 := Scalar.addi c1024_i32_771 v736
  let v738 : BitVec 32 := Scalar.addi v737 c0_i32_772
  let v739 : Index := Scalar.indexCast v738
  let c0_773 : Index := 0#32
  ![v739.toNat, 0]
def k0_dev21 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_826 : BitVec 32 := 1#32
  let v769 : BitVec 32 := Scalar.muli v24 c1_i32_826
  let v770 : BitVec 32 := Scalar.addi c0_i32_827 v769
  v770.toNat
def k0_dev22 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_838 : BitVec 32 := 1#32
  let v779 : BitVec 32 := Scalar.muli v13 c1_i32_838
  let v780 : BitVec 32 := Scalar.addi c0_i32_839 v779
  v780.toNat
def k0_dev23 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_925 : BitVec 32 := 1#32
  let v856 : BitVec 32 := Scalar.muli v24 c1_i32_925
  let v857 : BitVec 32 := Scalar.addi c0_i32_926 v856
  v857.toNat
def k0_dev24 (d0 : Dev nD) : Nat :=
  let c0_i32_938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_937 : BitVec 32 := 1#32
  let v866 : BitVec 32 := Scalar.muli v13 c1_i32_937
  let v867 : BitVec 32 := Scalar.addi c0_i32_938 v866
  v867.toNat
def k0_dev25 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1008 : BitVec 32 := 1#32
  let v919 : BitVec 32 := Scalar.muli v24 c1_i32_1008
  let v920 : BitVec 32 := Scalar.addi c0_i32_1009 v919
  v920.toNat
def k0_dev26 (d0 : Dev nD) : Nat :=
  let c0_i32_1021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1020 : BitVec 32 := 1#32
  let v929 : BitVec 32 := Scalar.muli v13 c1_i32_1020
  let v930 : BitVec 32 := Scalar.addi c0_i32_1021 v929
  v930.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Body.lean ====
/-
  The kernel's body as a short program over its four slot buffers: what one device does, written
  with one name per repeated step, and the theorem that the printed body is that program.
-/
module

public import proofs.«01_k».proof.Proof.Gen.KernelIdeal.Skeleton
public import proofs.«01_k».proof.Proof.Gen.KernelIdeal.Frame

@[expose] public section

noncomputable section

namespace Cert.KernelIdeal

open Idealize.ShloMosaic Idealize.ShloMosaic.TcCoe
open Idealize.SL Idealize.SL.Sem
open Cert.KernelIdeal.Gen

variable {F : FTy → Type} [FloatOps F]

variable (F) in
/-- Programs of the TensorCore. -/
abbrev PR := Prog (TpuEff nD τ sig (Elt F) Λ₀ .tc)

/-! ## The buffers, their slots, and the semaphores -/

/-- The four slot buffers: the two of the reduce phase, one per direction, then the two of the gather phase. -/
def buf : Fin 4 → Memref sig .tc .vmem S4x256x2048 .bf16
  | 0 => Memref.whole cc0_scratch0
  | 1 => Memref.whole cc0_scratch1
  | 2 => Memref.whole cc0_scratch2
  | 3 => Memref.whole cc0_scratch3

/-- The send semaphores of a buffer's copies. -/
def sArr : Fin 4 → DmaSems sig S3x2
  | 0 => cc0_scratch4
  | 1 => cc0_scratch6
  | 2 => cc0_scratch8
  | 3 => cc0_scratch10

/-- The receive semaphores of a buffer's copies. -/
def rArr : Fin 4 → DmaSems sig S3x2
  | 0 => cc0_scratch5
  | 1 => cc0_scratch7
  | 2 => cc0_scratch9
  | 3 => cc0_scratch11

/-- Each slot buffer is a whole buffer. -/
theorem buf_whole : ∀ k, (buf k).IsWhole
  | 0 => Memref.isWhole_whole _
  | 1 => Memref.isWhole_whole _
  | 2 => Memref.isWhole_whole _
  | 3 => Memref.isWhole_whole _

/-- Piece `p` of slot `s` lies inside its buffer. -/
theorem slot_inb : ∀ (s : Fin 4) (p : Fin 2) (a), (![s.val, 128 * p.val, 0] : Fin 3 → ℕ) a + S1x128x2048.size a ≤ S4x256x2048.size a := by
  decide

/-- The rectangle of piece `p` of slot `s`. -/
abbrev slotR (s : Fin 4) (p : Fin 2) : Rect S4x256x2048 :=
  Rect.unit (s := S4x256x2048) ![s.val, 128 * p.val, 0] S1x128x2048.size (slot_inb s p)

/-- A piece is whole words, -/
theorem slot_words : ∀ (s : Fin 4) (p : Fin 2), (slotR s p).WholeWords (EltTy.packing .bf16) := by decide

/-- and whole packed rows. -/
theorem slot_packed : ∀ (s : Fin 4) (p : Fin 2), (slotR s p).PackedRows (EltTy.packing .bf16) := by decide

/-- Piece `p` of slot `s` of buffer `k`, -/
abbrev slotM (k : Fin 4) (s : Fin 4) (p : Fin 2) : Memref sig .tc .vmem S1x128x2048 .bf16 :=
  (buf k).slice (slotR s p) (fun _ => rfl)

/-- and as a matrix of rows. -/
abbrev pieceM (k : Fin 4) (s : Fin 4) (p : Fin 2) : Memref sig .tc .vmem S128x2048 .bf16 :=
  (slotM k s p).squeeze S128x2048 squeezes_S1x128x2048_S128x2048

/-- The semaphore at step `s` and piece `p` lies inside its array. -/
theorem sem_inb : ∀ (s : Fin 3) (p : Fin 2) (a), (![s.val, p.val] : Fin 2 → ℕ) a + S1x1.size a ≤ S3x2.size a := by
  decide

/-- The semaphore of an array at step `s` and piece `p`. -/
abbrev semAt (a : DmaSems sig S3x2) (s : Fin 3) (p : Fin 2) : DmaSem sig :=
  ((a.slice (Rect.unit (s := S3x2) ![s.val, p.val] S1x1.size (sem_inb s p))).squeeze S_ squeezes_S1x1_S_).sem

/-- Copy `(k, s, p)`'s send semaphore, -/
abbrev sSem (k : Fin 4) (s : Fin 3) (p : Fin 2) : DmaSem sig := semAt (sArr k) s p
/-- and its receive semaphore. -/
abbrev rSem (k : Fin 4) (s : Fin 3) (p : Fin 2) : DmaSem sig := semAt (rArr k) s p

/-- A piece's view moves whole words. -/
theorem piece_exact (k : Fin 4) (s : Fin 4) (p : Fin 2) : (pieceM k s p).view.WordExact :=
  (((buf_whole k).wordExact_slice rfl _ (slot_words s p)).reshape _ _)

/-! ## The three windows' staging buffers -/

/-- The device's block of `A`, -/
abbrev aM : Memref sig .tc .vmem S2048x1024 .f32 := Memref.whole cc0_stg0_0
/-- of `B`, -/
abbrev bM : Memref sig .tc .vmem S1024x2048 .f32 := Memref.whole cc0_stg1_0
/-- and the result. -/
abbrev oM : Memref sig .tc .vmem S2048x2048 .f32 := Memref.whole cc0_stg2_0

/-! ## Where the kernel reads, writes and sends -/

/-- The reduce phase's buffer of a direction, -/
abbrev rsK : Fin 2 → Fin 4
  | 0 => 0
  | 1 => 1
/-- and the gather phase's. -/
abbrev agK : Fin 2 → Fin 4
  | 0 => 2
  | 1 => 3

/-- The device a direction sends to. -/
abbrev peer (d : Dev nD) : Fin 2 → Dev nD
  | 0 => ⟨k0_dev3 d, k0_dev3_lt d⟩
  | 1 => ⟨k0_dev4 d, k0_dev4_lt d⟩

/-- The offsets of the rows of `A` a direction starts from, -/
abbrev firstOff (d : Dev nD) : Fin 2 → Fin 2 → ℕ
  | 0 => k0_off1 d
  | 1 => k0_off2 d
theorem firstOff_inb (d : Dev nD) : ∀ δ a, firstOff d δ a + S256x1024.size a ≤ S2048x1024.size a
  | 0 => k0_off1_inb d
  | 1 => k0_off2_inb d

/-- of those it adds at step `s`, -/
abbrev addOff (d : Dev nD) (s : Fin 3) : Fin 2 → Fin 2 → ℕ
  | 0 => k0_off3 d (BitVec.ofNat 32 s.val)
  | 1 => k0_off4 d (BitVec.ofNat 32 s.val)
theorem addOff_inb (d : Dev nD) (s : Fin 3) : ∀ δ a, addOff d s δ a + S256x1024.size a ≤ S2048x1024.size a
  | 0 => k0_off3_inb d s
  | 1 => k0_off4_inb d s

/-- of the result's rows a device finishes itself, -/
abbrev ownOff (d : Dev nD) (p : Fin 2) : Fin 2 → Fin 2 → ℕ
  | 0 => k0_off5 d (BitVec.ofNat 32 (128 * p.val))
  | 1 => k0_off6 d (BitVec.ofNat 32 (128 * p.val))
theorem ownOff_inb (d : Dev nD) (p : Fin 2) : ∀ δ a, ownOff d p δ a + S128x2048.size a ≤ S2048x2048.size a
  | 0 => k0_off5_inb d p
  | 1 => k0_off6_inb d p

/-- and of those it gathers. -/
abbrev gatOff (d : Dev nD) (h : Fin 3) (p : Fin 2) : Fin 2 → Fin 2 → ℕ
  | 0 => k0_off7 d (BitVec.ofNat 32 h.val) (BitVec.ofNat 32 (128 * p.val))
  | 1 => k0_off8 d (BitVec.ofNat 32 h.val) (BitVec.ofNat 32 (128 * p.val))
theorem gatOff_inb (d : Dev nD) (h : Fin 3) (p : Fin 2) : ∀ δ a, gatOff d h p δ a + S128x2048.size a ≤ S2048x2048.size a
  | 0 => k0_off7_inb d h p
  | 1 => k0_off8_inb d h p

/-! ## The arithmetic -/

/-- Rows of `A` times `B`. -/
def prodF (a : Vec F S256x1024 .f32) (b : Vec F S1024x2048 .f32) : FVec F S256x2048 .f32 :=
  matmul dot_S256x1024_S1024x2048_S256x2048_1_0_0_1_n_n none (shapeCast S256x1024 a shapeCasts_S256x1024_S256x1024)
    (shapeCast S1024x2048 b shapeCasts_S1024x2048_S1024x2048) (constant S256x2048 .f32 0x00000000#32)

/-- A chunk's two row pieces are slices of it. -/
theorem half_slices : ∀ p : Fin 2, S256x2048.Slices ![128 * p.val, 0] S128x2048 := by decide

/-- Piece `p` of a chunk. -/
def halfF (p : Fin 2) (x : FVec F S256x2048 .f32) : FVec F S128x2048 .f32 :=
  extractStridedSlice S128x2048 ![128 * p.val, 0] x (half_slices p)

/-- A slot's piece at full precision. -/
def wideF (v : Vec F S1x128x2048 .bf16) : FVec F S128x2048 .f32 :=
  extf .f32 (shapeCast S128x2048 v shapeCasts_S1x128x2048_S128x2048) bitsLt_bf16_f32

/-- Rows as a slot stores them. -/
def narrowF (x : FVec F S128x2048 .f32) : FVec F S1x128x2048 .bf16 :=
  shapeCast S1x128x2048 (truncf .bf16 x bitsLt_bf16_f32) shapeCasts_S128x2048_S1x128x2048

/-- What arrived plus the device's own part. -/
def accF (p : Fin 2) (x : FVec F S256x2048 .f32) (v : Vec F S1x128x2048 .bf16) : FVec F S128x2048 .f32 :=
  addf (wideF v) (halfF p x)

/-- `z` times the logistic of `z`. -/
def siluF (z : FVec F S128x2048 .f32) : FVec F S128x2048 .f32 := mulf z (logistic z)

/-- A whole chunk as a slot stores it. -/
def narrow2F (x : FVec F S256x2048 .f32) : FVec F S1x256x2048 .bf16 :=
  shapeCast S1x256x2048 (truncf .bf16 x bitsLt_bf16_f32) shapeCasts_S256x2048_S1x256x2048

/-! ## The steps -/

/-- Start copy `(k, s, p)`: piece `p` of slot `s` to slot `s + 1` of device `n`. -/
def sendK (k : Fin 4) (s : Fin 3) (p : Fin 2) (n : Dev nD) : PR F PUnit :=
  Prog.lift (.enqueueDma (pieceM k s.castSucc p) (.remote (Dev.tc n) (pieceM k s.succ p) (.dma (sSem k s p))) (.dma (rSem k s p))
    (piece_exact k s.castSucc p) (piece_exact k s.succ p) ⟨⟨rfl, Or.inl rfl⟩, trivial⟩)

/-- Wait for copy `(k, s, p)` to have left and for the neighbour's to have arrived. -/
def waitK (k : Fin 4) (s : Fin 3) (p : Fin 2) : PR F PUnit := do
  Prog.lift (.waitDma2 (sSem k s p) (pieceM k s.succ p) (pieceM k s.castSucc p) (piece_exact k s.succ p) (piece_exact k s.castSucc p))
  Prog.lift (.waitDma2 (rSem k s p) (pieceM k s.castSucc p) (pieceM k s.succ p) (piece_exact k s.castSucc p) (piece_exact k s.succ p))

/-- Read a slot's piece. -/
def loadK (k : Fin 4) (s : Fin 4) (p : Fin 2) : PR F (Vec F S1x128x2048 .bf16) :=
  Prog.lift (.load (buf k) (slotR s p).toLoadRect (View.loadsAt_vmem h_S1x128x2048))

/-- Write a slot's piece. -/
def storeK (k : Fin 4) (s : Fin 4) (p : Fin 2) (v : FVec F S1x128x2048 .bf16) : PR F PUnit :=
  Prog.lift (.store (buf k) (slotR s p) v Finset.univ
    (View.stores_vmem h_S1x128x2048 ((buf_whole k).storeExact_slice rfl _ (slot_packed s p)) (fun _ => rfl)) (.inl rfl))

/-- Put rows into the result at an offset (reading what was there first, unused). -/
def putK (off : Fin 2 → ℕ) (h : ∀ a, off a + S128x2048.size a ≤ S2048x2048.size a) (v : FVec F S128x2048 .f32) : PR F PUnit := do
  let _ : Vec F S128x2048 .f32 ← Prog.lift (.load oM (Rect.unit (s := S2048x2048) off S128x2048.size h).toLoadRect (View.loadsAt_vmem h_S128x2048))
  Prog.lift (.store oM (Rect.unit (s := S2048x2048) off S128x2048.size h) v Finset.univ (View.stores_vmem_bits_univ h_S128x2048 rfl) (.inl rfl))

/-- The product of 256 rows of the block of `A` with the block of `B`. -/
def prodK (off : Fin 2 → ℕ) (h : ∀ a, off a + S256x1024.size a ≤ S2048x1024.size a) : PR F (FVec F S256x2048 .f32) := do
  let a : Vec F S256x1024 .f32 ← Prog.lift (.load aM (Rect.unit (s := S2048x1024) off S256x1024.size h).toLoadRect (View.loadsAt_vmem h_S256x1024))
  let b : Vec F S1024x2048 .f32 ← Prog.lift (.load bM (Rect.unit (s := S1024x2048) ![0, 0] S1024x2048.size inb_S1024x2048_S1024x2048_0_0).toLoadRect (View.loadsAt_vmem h_S1024x2048))
  pure (prodF a b)

/-- Fill slot 0 of a direction's reduce buffer. -/
def fillK (d : Dev nD) (δ : Fin 2) : PR F PUnit := do
  let x ← prodK (firstOff d δ) (firstOff_inb d δ)
  let _ : Vec F S1x256x2048 .bf16 ← Prog.lift (.load (buf (rsK δ)) (Rect.unit (s := S4x256x2048) ![0, 0, 0] S1x256x2048.size inb_S4x256x2048_S1x256x2048_0_0_0).toLoadRect (View.loadsAt_vmem h_S1x256x2048))
  Prog.lift (.store (buf (rsK δ)) (Rect.unit (s := S4x256x2048) ![0, 0, 0] S1x256x2048.size inb_S4x256x2048_S1x256x2048_0_0_0) (narrow2F x) Finset.univ
    (View.stores_vmem h_S1x256x2048 ((buf_whole (rsK δ)).storeExact_slice rfl _ packedbf16_S4x256x2048_S1x256x2048_0_0_0) (fun _ => rfl)) (.inl rfl))

/-- Wait for a copy of direction `δ` and read what arrived. -/
def recvK (k : Fin 4) (s : Fin 3) (p : Fin 2) : PR F (Vec F S1x128x2048 .bf16) := do
  waitK k s p
  loadK k s.succ p

/-- Write a piece (reading it first, unused) and start its copy. -/
def passK (k : Fin 4) (s : Fin 3) (p : Fin 2) (v : FVec F S1x128x2048 .bf16) (n : Dev nD) : PR F PUnit := do
  let _ ← loadK k s.castSucc p
  storeK k s.castSucc p v
  sendK k s p n

/-- Piece `p` of reduce step `s`, both directions. -/
def reduceK (d : Dev nD) (s : Fin 2) (p : Fin 2) (x y : FVec F S256x2048 .f32) : PR F PUnit := do
  let v ← recvK (rsK 0) s.castSucc p
  let w ← recvK (rsK 1) s.castSucc p
  passK (rsK 0) s.succ p (narrowF (accF p x v)) (peer d 0)
  passK (rsK 1) s.succ p (narrowF (accF p y w)) (peer d 1)

/-- Finish rows of the result and start handing them round. -/
def ownK (d : Dev nD) (δ : Fin 2) (p : Fin 2) (z : FVec F S128x2048 .f32) : PR F PUnit := do
  putK (ownOff d p δ) (ownOff_inb d p δ) z
  passK (agK δ) 0 p (narrowF z) (peer d δ)

/-- Piece `p` of the last reduce step, both directions. -/
def lastK (d : Dev nD) (p : Fin 2) (x y : FVec F S256x2048 .f32) : PR F PUnit := do
  let v ← recvK (rsK 0) 2 p
  let w ← recvK (rsK 1) 2 p
  ownK d 0 p (siluF (accF p x v))
  ownK d 1 p (siluF (accF p y w))

/-- Put rows that arrived into the result. -/
def takeK (d : Dev nD) (δ : Fin 2) (h : Fin 3) (p : Fin 2) : PR F PUnit := do
  let v ← loadK (agK δ) h.succ p
  putK (gatOff d h p δ) (gatOff_inb d h p δ) (wideF v)

/-- Piece `p` of gather step `h`, both directions: wait, hand on, keep. -/
def gatherK (d : Dev nD) (h : Fin 2) (p : Fin 2) : PR F PUnit := do
  waitK (agK 0) h.castSucc p
  waitK (agK 1) h.castSucc p
  sendK (agK 0) h.succ p (peer d 0)
  sendK (agK 1) h.succ p (peer d 1)
  takeK d 0 h.castSucc p
  takeK d 1 h.castSucc p

/-- Piece `p` of the last gather step: wait and keep. -/
def endK (d : Dev nD) (p : Fin 2) : PR F PUnit := do
  waitK (agK 0) 2 p
  waitK (agK 1) 2 p
  takeK d 0 2 p
  takeK d 1 2 p

/-- The barrier semaphore. -/
abbrev barS : Sem sig := (SemArray.scalar (sig.barrier 0 rfl) : Sems sig S_).sem

/-- Tell both neighbours this device is in, and wait to hear from both. -/
def meetK (d : Dev nD) : PR F PUnit := do
  semSignalWord (⟨k0_dev1 d, k0_dev1_lt d⟩ : Dev nD) barS 1#32
  semSignalWord (⟨k0_dev2 d, k0_dev2_lt d⟩ : Dev nD) barS 1#32
  semWaitWord barS 2#32

/-- The four copies that open the reduce phase. -/
def openK (d : Dev nD) : PR F PUnit := do
  sendK (rsK 0) 0 0 (peer d 0)
  sendK (rsK 1) 0 0 (peer d 1)
  sendK (rsK 0) 0 1 (peer d 0)
  sendK (rsK 1) 0 1 (peer d 1)

/-- One reduce step. -/
def stepK (d : Dev nD) (s : Fin 2) : PR F PUnit := do
  let x ← prodK (addOff d s.castSucc 0) (addOff_inb d s.castSucc 0)
  let y ← prodK (addOff d s.castSucc 1) (addOff_inb d s.castSucc 1)
  reduceK d s 0 x y
  reduceK d s 1 x y

/-- The last reduce step. -/
def stepLastK (d : Dev nD) : PR F PUnit := do
  let x ← prodK (addOff d 2 0) (addOff_inb d 2 0)
  let y ← prodK (addOff d 2 1) (addOff_inb d 2 1)
  lastK d 0 x y
  lastK d 1 x y

/-- The gather phase. -/
def roundK (d : Dev nD) : PR F PUnit := do
  gatherK d 0 0
  gatherK d 0 1
  gatherK d 1 0
  gatherK d 1 1
  endK d 0
  endK d 1

/-- The whole body on device `d`. -/
def bodyK (d : Dev nD) : PR F PUnit := do
  meetK d
  fillK d 0
  fillK d 1
  openK d
  stepK d 0
  stepK d 1
  stepLastK d
  roundK d

set_option maxRecDepth 65536 in
theorem bodyAt_eq : bodyAt0 (F := F) t0_0 = (Prog.lift .deviceId >>= fun d => bodyK d) := by
  rfl

end Cert.KernelIdeal

end
-- ==== Proof.Common.lean ====
/-
  The protocol of the kernel: the ring, the semaphore cells, what every slot holds when it is sent,
  the rounds schedule over the cells, what a device owes at each moment, and the levels that order the waits.
-/
module

public import proofs.«01_k».proof.Proof.Body
public import Idealize.ShloMosaic.Lib.Pipeline.Launch
public import Idealize.ShloMosaic.Lib.MemrefSat

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The ghost state: the pipeline's rounds and this protocol's, whose duties are named by a direction. -/
abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The direction a buffer's copies travel: 0 to the next device, 1 to the previous. -/
abbrev dir : Fin 4 → Fin 2
  | 0 => 0
  | 1 => 1
  | 2 => 0
  | 3 => 1

/-- The device a direction sends to, -/
abbrev tgt : Fin 2 → Dev nD → Dev nD
  | 0 => nxt
  | 1 => prv
/-- and the one it receives from. -/
abbrev org : Fin 2 → Dev nD → Dev nD
  | 0 => prv
  | 1 => nxt

theorem org_tgt (δ : Fin 2) (c : Dev nD) : org δ (tgt δ c) = c := by revert δ c; decide
theorem tgt_org (δ : Fin 2) (c : Dev nD) : tgt δ (org δ c) = c := by revert δ c; decide

/-- A direction's step around the ring. -/
def ring (δ : Fin 2) : Dev nD ≃ Dev nD := ⟨tgt δ, org δ, org_tgt δ, tgt_org δ⟩

/-- The device a direction addresses is its target; -/
theorem peer_eq (d : Dev nD) (δ : Fin 2) : peer d δ = tgt δ d := by revert d δ; decide
/-- the first signal goes to the previous device, -/
theorem dev1_eq (d : Dev nD) : (⟨k0_dev1 d, k0_dev1_lt d⟩ : Dev nD) = org 0 d := by revert d; decide
/-- the second to the next. -/
theorem dev2_eq (d : Dev nD) : (⟨k0_dev2 d, k0_dev2_lt d⟩ : Dev nD) = org 1 d := by revert d; decide

/-! ## The cells -/

/-- A copy: its buffer, its step, its piece. -/
abbrev Cp := Fin 4 × Fin 3 × Fin 2

/-- A cell of a device: the barrier, or a copy's send (`false`) or receive (`true`) cell. -/
abbrev CK := Option (Bool × Cp)

/-- A copy's semaphore on a side. -/
abbrev xsem : Bool × Cp → DmaSem sig
  | (false, i) => sSem i.1 i.2.1 i.2.2
  | (true, i) => rSem i.1 i.2.1 i.2.2

/-- A copy's semaphore by its number. -/
theorem xsem_val : ∀ x : Bool × Cp,
    (xsem x).val = 3 + 12 * x.2.1.val + (if x.1 then 6 else 0) + 2 * x.2.2.1.val + x.2.2.2.val := by
  decide

/-- A cell's semaphore. -/
abbrev csem : CK → SemLoc sig
  | none => .reg barS
  | some x => .dma (xsem x)

/-- The cell a semaphore is of, if it is one of the protocol's. -/
def kindOf : SemLoc sig → Option CK
  | .reg _ => some none
  | .dma q => if q.val < 3 then none else
      some (some (decide (6 ≤ (q.val - 3) % 12),
        (Fin.ofNat 4 ((q.val - 3) / 12), Fin.ofNat 3 ((q.val - 3) % 6 / 2), Fin.ofNat 2 ((q.val - 3) % 2))))

/-- Reading off a cell's semaphore gives the cell back. -/
theorem kindOf_csem (x : CK) : kindOf (csem x) = some x := by
  rcases x with _ | ⟨b, k, s, p⟩
  · rfl
  · have h := xsem_val (b, k, s, p)
    have h3 : ¬ (xsem (b, k, s, p)).val < 3 := by rw [h]; dsimp only; omega
    show (if (xsem (b, k, s, p)).val < 3 then none else _) = _
    rw [if_neg h3, h]
    revert b k s p
    decide

theorem csem_injective : Function.Injective csem := fun x y h => by
  have := congrArg kindOf h
  rw [kindOf_csem, kindOf_csem] at this
  exact Option.some.inj this

/-- A device's cell. -/
abbrev kcell (cx : Dev nD × CK) : GSem nD τ sig := ((cx.1 : Thread nD τ), csem cx.2)

theorem kcell_injective : Function.Injective (kcell : Dev nD × CK → GSem nD τ sig) := by
  rintro ⟨c, x⟩ ⟨c', x'⟩ h
  have h1 : c = c' := congrArg (fun g : GSem nD τ sig => g.1.1) h
  have h2 : x = x' := csem_injective (congrArg Prod.snd h)
  rw [h1, h2]

abbrev barCell (c : Dev nD) : GSem nD τ sig := kcell (c, none)
abbrev sCell (c : Dev nD) (i : Cp) : GSem nD τ sig := kcell (c, some (false, i))
abbrev rCell (c : Dev nD) (i : Cp) : GSem nD τ sig := kcell (c, some (true, i))

/-- A copy's credit: the bytes of a piece. -/
abbrev N : ℕ := (pieceM 0 0 0).view.dmaCredit
theorem N_pos : 0 < N := View.dmaCredit_pos _ (by decide)

/-! ## What the slots hold -/

section Contents

variable (A : Dev nD → Vec F S2048x1024 .f32) (B : Dev nD → Vec F S1024x2048 .f32)

/-- 256 rows of a block of `A`. -/
def rowsA (a : Vec F S2048x1024 .f32) (off : Fin 2 → ℕ) (h : ∀ x, off x + S256x1024.size x ≤ S2048x1024.size x) : Vec F S256x1024 .f32 :=
  fun j => a ((Rect.unit (s := S2048x1024) off S256x1024.size h).emb j)

/-- The chunk of the product a device starts from, -/
def firstC (δ : Fin 2) (c : Dev nD) : FVec F S256x2048 .f32 := prodF (rowsA (A c) (firstOff c δ) (firstOff_inb c δ)) (B c)
/-- and the chunk it adds at step `s`. -/
def addC (δ : Fin 2) (s : Fin 3) (c : Dev nD) : FVec F S256x2048 .f32 := prodF (rowsA (A c) (addOff c s δ) (addOff_inb c s δ)) (B c)

/-- What slot `s` of a direction's reduce buffer holds when its copy starts. -/
def rsC (δ : Fin 2) (p : Fin 2) : Fin 3 → Dev nD → Vec F S1x128x2048 .bf16
  | 0, c => narrowF (halfF p (firstC A B δ c))
  | 1, c => narrowF (accF p (addC A B δ 0 c) (narrowF (halfF p (firstC A B δ (org δ c)))))
  | 2, c => narrowF (accF p (addC A B δ 1 c) (narrowF (accF p (addC A B δ 0 (org δ c)) (narrowF (halfF p (firstC A B δ (org δ (org δ c))))))))

theorem rsC_succ (δ p : Fin 2) (s : Fin 2) (c : Dev nD) :
    rsC A B δ p s.succ c = narrowF (accF p (addC A B δ s.castSucc c) (rsC A B δ p s.castSucc (org δ c))) := by
  match s with
  | 0 => rfl
  | 1 => rfl

/-- The rows a device finishes. -/
def zC (δ : Fin 2) (p : Fin 2) (c : Dev nD) : FVec F S128x2048 .f32 := siluF (accF p (addC A B δ 2 c) (rsC A B δ p 2 (org δ c)))

/-- What slot `h` of a direction's gather buffer holds when its copy starts. -/
def agC (δ : Fin 2) (p : Fin 2) : Fin 3 → Dev nD → Vec F S1x128x2048 .bf16
  | 0, c => narrowF (zC A B δ p c)
  | 1, c => narrowF (zC A B δ p (org δ c))
  | 2, c => narrowF (zC A B δ p (org δ (org δ c)))

theorem agC_succ (δ p : Fin 2) (h : Fin 2) (c : Dev nD) : agC A B δ p h.succ c = agC A B δ p h.castSucc (org δ c) := by
  match h with
  | 0 => rfl
  | 1 => rfl

/-- What a copy carries. -/
def sentC (i : Cp) (c : Dev nD) : Vec F S1x128x2048 .bf16 :=
  match i.1 with
  | 0 => rsC A B 0 i.2.2 i.2.1 c
  | 1 => rsC A B 1 i.2.2 i.2.1 c
  | 2 => agC A B 0 i.2.2 i.2.1 c
  | 3 => agC A B 1 i.2.2 i.2.1 c

theorem sentC_rs (δ : Fin 2) (s : Fin 3) (p : Fin 2) (c : Dev nD) : sentC A B (rsK δ, s, p) c = rsC A B δ p s c := by
  match δ with
  | 0 => rfl
  | 1 => rfl
theorem sentC_ag (δ : Fin 2) (s : Fin 3) (p : Fin 2) (c : Dev nD) : sentC A B (agK δ, s, p) c = agC A B δ p s c := by
  match δ with
  | 0 => rfl
  | 1 => rfl

/-! ## The schedule -/

/-- Owning a slot's piece at contents, -/
abbrev slotO (c : Dev nD) (k s : Fin 4) (p : Fin 2) (q : PosShare TreeShare) (X : Vec F S1x128x2048 .bf16) : sProp 𝕄 :=
  ownsTc c (slotM k s p) q X
/-- and at whatever it holds. -/
abbrev slotAny (c : Dev nD) (k s : Fin 4) (p : Fin 2) : sProp 𝕄 :=
  ownsSatTc c (slotM k s p) fullShare (fun _ : S1x128x2048.Idx → Elt F .bf16 => True)

/-- A phase's buffers: the reduce phase's, the gather phase's. -/
abbrev kk : Fin 2 → Fin 2 → Fin 4
  | 0 => rsK
  | 1 => agK

/-- What a device's word over the barrier hands its neighbour in direction `δ`'s stead: the slots that direction's
    copies land in. -/
def landing (c : Dev nD) (δ : Fin 2) : sProp 𝕄 :=
  bigSep Finset.univ fun x : Fin 2 × Fin 3 × Fin 2 => slotAny c (kk x.1 δ) x.2.1.succ x.2.2

/-- What a copy's send cell gives back: half the share of its source; -/
def sendPay (c : Dev nD) (i : Cp) : sProp 𝕄 := slotO c i.1 i.2.1.castSucc i.2.2 fullShare.left (sentC A B i c)
/-- what its receive cell gives: its destination, holding what the neighbour sent. -/
def recvPay (c : Dev nD) (i : Cp) : sProp 𝕄 := slotO c i.1 i.2.1.succ i.2.2 fullShare (sentC A B i (org (dir i.1) c))

/-- One round: a barrier cell has one duty per direction, a copy's cell one duty of the copy's credit. -/
def sched : Rounds.Schedule (GSem nD τ sig) (Fin 2) 𝕄 where
  duties g r := if r = 0 ∧ g.1.2 = .tc then
      match kindOf g.2 with
      | none => ∅
      | some none => Finset.univ
      | some (some _) => {0}
    else ∅
  unitless _ := False
  amount g _ _ := match kindOf g.2 with
    | some (some _) => N
    | _ => 1
  payload g _ d := match kindOf g.2 with
    | none => iprop(emp)
    | some none => landing (tgt d g.1.1) d
    | some (some (false, i)) => sendPay A B g.1.1 i
    | some (some (true, i)) => recvPay A B g.1.1 i
  amount_pos g _ _ _ := by
    rcases h : kindOf g.2 with _ | _ | _
    · exact Nat.one_pos
    · exact Nat.one_pos
    · exact N_pos

omit [FloatOps F] in
instance landing_storable (c : Dev nD) (δ : Fin 2) : BI.Storable (upEmb : UEmb _ 𝕄) (landing (F := F) c δ) := by
  unfold landing; infer_instance
instance sendPay_storable (c : Dev nD) (i : Cp) : BI.Storable (upEmb : UEmb _ 𝕄) (sendPay A B c i) := by
  unfold sendPay; infer_instance
instance recvPay_storable (c : Dev nD) (i : Cp) : BI.Storable (upEmb : UEmb _ 𝕄) (recvPay A B c i) := by
  unfold recvPay; infer_instance

instance sched_payload_storable (g : GSem nD τ sig) (r : ℕ) (d : Fin 2) :
    BI.Storable (upEmb : UEmb _ 𝕄) ((sched A B).payload g r d) := by
  show BI.Storable upEmb (match kindOf g.2 with
    | none => iprop(emp)
    | some none => landing (tgt d g.1.1) d
    | some (some (false, i)) => sendPay A B g.1.1 i
    | some (some (true, i)) => recvPay A B g.1.1 i)
  split <;> infer_instance

section Sched
variable (c : Dev nD) (x : Bool × Cp) (i : Cp) (d : Fin 2)

theorem duties_bar : (sched A B).duties (barCell c) 0 = Finset.univ := by
  dsimp only [sched]; rw [if_pos ⟨rfl, rfl⟩, kindOf_csem]
theorem duties_copy : (sched A B).duties (kcell (c, some x)) 0 = {0} := by
  dsimp only [sched]; rw [if_pos ⟨rfl, rfl⟩, kindOf_csem]
theorem duties_later (g : GSem nD τ sig) : ∀ r, 1 ≤ r → (sched A B).duties g r = ∅ :=
  fun r hr => by dsimp only [sched]; rw [if_neg fun h => by omega]
theorem amount_bar : (sched A B).amount (barCell c) 0 d = 1 := by
  dsimp only [sched]; rw [kindOf_csem]
theorem amount_copy : (sched A B).amount (kcell (c, some x)) 0 d = N := by
  dsimp only [sched]; rw [kindOf_csem]
theorem payload_bar : (sched A B).payload (barCell c) 0 d = landing (tgt d c) d := by
  dsimp only [sched]; rw [kindOf_csem]
theorem payload_send : (sched A B).payload (sCell c i) 0 d = sendPay A B c i := by
  dsimp only [sched]; rw [kindOf_csem]
theorem payload_recv : (sched A B).payload (rCell c i) 0 d = recvPay A B c i := by
  dsimp only [sched]; rw [kindOf_csem]

theorem expect_bar : (sched A B).expect (barCell c) 0 = 2 := by
  unfold Schedule.expect Schedule.amountOf
  rw [duties_bar, Finset.sum_congr rfl fun d _ => amount_bar A B c d, Finset.sum_const, Finset.card_univ, Fintype.card_fin, smul_eq_mul]
theorem expect_copy : (sched A B).expect (kcell (c, some x)) 0 = N := by
  unfold Schedule.expect Schedule.amountOf; rw [duties_copy, Finset.sum_singleton, amount_copy]

/-- The rest of a barrier cell's round: both directions' landing slots. -/
theorem rest_bar : bigSep ((sched A B).duties (barCell c) 0 \ ∅) (fun d => (sched A B).payload (barCell c) 0 d)
    = iprop(landing (nxt c) 0 ∗ landing (prv c) 1) := by
  rw [Finset.sdiff_empty, duties_bar, bigSep_univ_eq_bigSepL [0, 1] (by decide) (by decide), bigSepL_cons_cons, bigSepL_singleton,
    payload_bar, payload_bar]
  rfl
theorem rest_send : bigSep ((sched A B).duties (sCell c i) 0 \ ∅) (fun d => (sched A B).payload (sCell c i) 0 d) = sendPay A B c i := by
  rw [Finset.sdiff_empty, duties_copy, bigSep_singleton, payload_send]
theorem rest_recv : bigSep ((sched A B).duties (rCell c i) 0 \ ∅) (fun d => (sched A B).payload (rCell c i) 0 d) = recvPay A B c i := by
  rw [Finset.sdiff_empty, duties_copy, bigSep_singleton, payload_recv]

end Sched

end Contents

/-! ## What a device owes; the levels -/

/-- What device `c` owes when the copies `l` are still to start: each one's credit, at its target. -/
def owedL (c : Dev nD) : List Cp → CellTallies nD τ sig Unit
  | [] => 0
  | i :: l => owedL c l + tallyAt (rCell (tgt (dir i.1) c) i) () N

/-- The copies in the order the program starts them. -/
def order : List Cp :=
  [(0, 0, 0), (1, 0, 0), (0, 0, 1), (1, 0, 1), (0, 1, 0), (1, 1, 0), (0, 1, 1), (1, 1, 1), (0, 2, 0), (1, 2, 0), (0, 2, 1), (1, 2, 1),
   (2, 0, 0), (3, 0, 0), (2, 0, 1), (3, 0, 1), (2, 1, 0), (3, 1, 0), (2, 1, 1), (3, 1, 1), (2, 2, 0), (3, 2, 0), (2, 2, 1), (3, 2, 1)]

/-- What a device owes at the start: both signals and every copy. -/
def O₁ (c : Dev nD) : CellTallies nD τ sig Unit := owedL c order + tallyAt (barCell (org 1 c)) () 1
def O₀ (c : Dev nD) : CellTallies nD τ sig Unit := O₁ c + tallyAt (barCell (org 0 c)) () 1

/-- A copy's place in the order its receive cell may be waited for. -/
def rank (i : Cp) : ℕ := 2 + 6 * (i.1.val / 2) + 2 * i.2.1.val + i.2.2.val

def L (g : GSem nD τ sig) : Finset Unit := if g.1.2 = .tc then {()} else ∅
/-- A cell's level: the barrier below every receive cell, everything else at the bottom. -/
def ckLv : Option CK → ℕ
  | some none => 1
  | some (some (true, i)) => rank i
  | _ => 0
def lv (g : GSem nD τ sig) (_ : Unit) : ℕ := ckLv (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- A device owes only receive cells of copies still to start. -/
theorem owedL_pos {c : Dev nD} {l : List Cp} {g : GSem nD τ sig} {u : Unit} (h : 0 < owedL c l g u) :
    ∃ j ∈ l, g = rCell (tgt (dir j.1) c) j := by
  induction l with
  | nil => exact absurd h (Nat.lt_irrefl 0)
  | cons j l ih =>
    unfold owedL at h
    rw [Pi.add_apply, Finsupp.add_apply, tallyAt_apply] at h
    by_cases hg : g = rCell (tgt (dir j.1) c) j
    · exact ⟨j, List.mem_cons_self .., hg⟩
    · rw [if_neg (fun h' => hg h'.1), Nat.add_zero] at h
      obtain ⟨j', hj', e⟩ := ih h
      exact ⟨j', List.mem_cons_of_mem _ hj', e⟩

theorem O₀_pos {c : Dev nD} {g : GSem nD τ sig} {u : Unit} (h : 0 < O₀ c g u) :
    ∃ c' x, g = kcell (c', x) ∧ 0 < ckLv (some x) := by
  unfold O₀ O₁ at h
  rw [Pi.add_apply, Finsupp.add_apply, Pi.add_apply, Finsupp.add_apply, tallyAt_apply, tallyAt_apply] at h
  by_cases h1 : g = barCell (org 0 c)
  · exact ⟨_, none, h1, Nat.one_pos⟩
  by_cases h2 : g = barCell (org 1 c)
  · exact ⟨_, none, h2, Nat.one_pos⟩
  rw [if_neg (fun h' => h2 h'.1), if_neg (fun h' => h1 h'.1), Nat.add_zero] at h
  obtain ⟨j, -, e⟩ := owedL_pos h
  exact ⟨_, some (true, j), e, by show 0 < rank j; unfold rank; omega⟩

omit [FloatOps F] in
/-- A device that owes the copies `l` may wait on a cell of a lower level than theirs. -/
theorem mayWait_cell (c : Dev nD) (x : CK) (l : List Cp) (h : ∀ j ∈ l, ckLv (some x) < rank j) :
    (levAts L lv : sProp 𝕄) ⊢ MayWait (c : Thread nD τ) (csem x) () (owedL c l) :=
  MayOwe.of_cut (L := L) (lev := lv) (ckLv (some x)) (fun p hp => by rw [Finset.mem_singleton.mp hp, L_tc]; exact Finset.mem_singleton_self _)
    (fun g u hg => by
      obtain ⟨j, -, rfl⟩ := owedL_pos hg
      rw [L_tc]; exact Finset.mem_singleton_self _)
    (fun p hp => by rw [Finset.mem_singleton.mp hp]; dsimp only [lv]; rw [kindOf_csem])
    (fun g u hg => by
      obtain ⟨j, hj, rfl⟩ := owedL_pos hg
      dsimp only [lv]; rw [kindOf_csem]; exact h j hj)

omit [FloatOps F] in
/-- The staging copies may be waited for at the start and at the end. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hk : kindOf (.dma q) = none := if_pos hq
  rcases hO with rfl | rfl
  · refine MayOwe.of_cut (L := L) (lev := lv) 0 (fun p hp => by rw [Finset.mem_singleton.mp hp, L_tc]; exact Finset.mem_singleton_self _)
      (fun g u hg => by
        obtain ⟨c', x, rfl, -⟩ := O₀_pos hg
        rw [L_tc]; exact Finset.mem_singleton_self _)
      (fun p hp => by rw [Finset.mem_singleton.mp hp]; dsimp only [lv]; rw [hk]; exact Nat.le_refl 0)
      (fun g u hg => by
        obtain ⟨c', x, rfl, h⟩ := O₀_pos hg
        dsimp only [lv]; rw [kindOf_csem]; exact h)
  · rw [MayWait_zero]; iintro -; iempintro

end Cert.KernelIdeal

end
-- ==== Proof.Steps.lean ====
/-
  One rule per step of the body: the copies and their waits, the reads and writes of slots, the
  product, and the rows put into the result.
-/
module

public import proofs.«01_k».proof.Proof.Common

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- A program's weakest precondition on a device's TensorCore. -/
abbrev WP {α : Type} (c : Dev nD) (p : PR F α) (Q : α → sProp 𝕄) : sProp 𝕄 :=
  wp frame (wpE (defs₀ (F := F)) 𝒱₀ (c : Thread nD τ) none) Set.univ p Q

/-- A sequence's weakest precondition, one program at a time. -/
theorem WP_bind {α β : Type} (c : Dev nD) (p : PR F α) (k : α → PR F β) (Q : β → sProp 𝕄) :
    WP c (p >>= k) Q = WP c p (fun a => WP c (k a) Q) := wp_bind ..

variable (A : Dev nD → Vec F S2048x1024 .f32) (B : Dev nD → Vec F S1024x2048 .f32)
variable (K : Dev nD × CK → ℕ)

/-! ## What every device may use at any time -/

/-- Every cell's invariant, every cell at its one round, and the levels. -/
def recs : sProp 𝕄 :=
  iprop((bigSep Finset.univ fun ck : Dev nD × CK => cellInv ER (sched A B) (K ck) (kcell ck))
    ∗ (bigSep Finset.univ fun ck : Dev nD × CK => reached ER (kcell ck) 0) ∗ levAts L lv)

instance recs_persistent : BI.Persistent (recs A B K) := by unfold recs; infer_instance

theorem recs_inv (ck : Dev nD × CK) : recs A B K ⊢ cellInv ER (sched A B) (K ck) (kcell ck) := by
  have h : (bigSep Finset.univ fun ck : Dev nD × CK => (cellInv ER (sched A B) (K ck) (kcell ck) : sProp 𝕄)) ⊢ cellInv ER (sched A B) (K ck) (kcell ck) :=
    bigSep_elim (Finset.mem_univ ck)
  unfold recs; iintro ⟨H, -, -⟩; iapply h; iexact H
theorem recs_reached (ck : Dev nD × CK) : recs A B K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold recs; iintro ⟨-, H, -⟩; iapply h; iexact H
theorem recs_lev : recs A B K ⊢ levAts L lv := by
  unfold recs; iintro ⟨-, -, H⟩; iexact H

/-! ## The per-copy resources -/

/-- What a device still owes, whatever it has waited for. -/
def owesL (c : Dev nD) (l : List Cp) : sProp 𝕄 := iprop(∃ W, owes (c : Thread nD τ) (owedL c l) W)

/-- What waiting for a copy uses: the positions at both its cells and the arriving copy's credit. -/
def waitR (c : Dev nD) (i : Cp) : sProp 𝕄 :=
  iprop(atPos ER (sCell c i) 0 ∅ 0 ∗ atPos ER (rCell c i) 0 ∅ 0 ∗ cred (tallyAt (rCell c i) () N))

/-- What starting a copy uses: the duty tokens of its two cells, -/
def sendR (c : Dev nD) (i : Cp) : sProp 𝕄 :=
  iprop(dutyTok ER (sCell c i) 0 0 ∗ dutyTok ER (rCell (tgt (dir i.1) c) i) 0 0)
/-- and the slot it lands in, the neighbour's. -/
def destR (c : Dev nD) (i : Cp) : sProp 𝕄 := slotAny (tgt (dir i.1) c) i.1 i.2.1.succ i.2.2

/-- A copy under way: the half of its source's share the device kept, and the credit of its departure. -/
def flight (c : Dev nD) (i : Cp) : sProp 𝕄 :=
  iprop(slotO c i.1 i.2.1.castSucc i.2.2 fullShare.right (sentC A B i c) ∗ cred (tallyAt (sCell c i) () N))

/-- A copy done with: its source slot, and both its cells closed at zero. -/
def over (c : Dev nD) (i : Cp) : sProp 𝕄 :=
  iprop(slotAny c i.1 i.2.1.castSucc i.2.2 ∗ semVal (sCell c i) 0 ∗ semVal (rCell c i) 0)

/-! ## Copies -/

omit [FloatOps F] in
/-- Writing through one reshaped view what another read through the same reshape, read back unreshaped. -/
theorem read_write_reshape {sp : Space} {s s' : Shape} {e : EltTy} (v w : View sig .tc sp s e) (h : s'.numel = s.numel)
    (fd : v.ty.Contents (Elt F)) (fs : w.ty.Contents (Elt F)) :
    v.read (Elt F) ((v.reshape s' h).write (Elt F) fd ((w.reshape s' h).read (Elt F) fs) Finset.univ) = w.read (Elt F) fs := by
  have h1 := (v.reshape s' h).read_write_univ (Val := Elt F) fd ((w.reshape s' h).read (Elt F) fs)
  funext y
  have h2 := congrFun h1 ((Shape.reshapeEquiv h).symm y)
  have hr (u : View sig .tc sp s e) (f : u.ty.Contents (Elt F)) :
      (u.reshape s' h).read (Elt F) f ((Shape.reshapeEquiv h).symm y) = u.read (Elt F) f y :=
    congrArg (u.read (Elt F) f) ((Shape.reshapeEquiv h).apply_symm_apply y)
  rw [← hr w, ← hr v]; exact h2

/-- A piece moves a copy's credit. -/
theorem piece_credit (k s : Fin 4) (p : Fin 2) : (pieceM k s p).view.dmaCredit = N := by
  match k with
  | 0 => rfl
  | 1 => rfl
  | 2 => rfl
  | 3 => rfl

/-- A copy's cell has its duty. -/
theorem duty_copy (c : Dev nD) (x : Bool × Cp) : (0 : Fin 2) ∈ (sched A B).duties (kcell (c, some x)) 0 := by
  rw [duties_copy]; exact Finset.mem_singleton_self _

variable {A B K} {α : Type} {c : Dev nD}

/-- Starting a copy whose source holds what the copy carries. -/
theorem wp_send (i : Cp) (n : Dev nD) (hn : n = tgt (dir i.1) c) (l : List Cp) {Q : PUnit → sProp 𝕄} :
    iprop(recs A B K ∗ sendR c i ∗ destR c i ∗ slotO c i.1 i.2.1.castSucc i.2.2 fullShare (sentC A B i c) ∗ owesL c (i :: l))
      ⊢ iprop(((flight A B c i ∗ owesL c l) -∗ Q ⟨⟩) -∗ WP c (sendK i.1 i.2.1 i.2.2 n) Q) := by
  subst hn
  unfold sendR destR owesL flight
  iintro ⟨#HR, ⟨Ht1, Ht2⟩, HD, HS, ⟨%W, HO⟩⟩ Hk
  unfold slotO
  ihave HS2 := (owns_halves (c : Thread nD τ) (slotM i.1 i.2.1.castSucc i.2.2) fullShare (sentC A B i c)).1 $$ HS
  icases HS2 with ⟨HSl, HSr⟩
  ihave HSl' := (Entails.of_eq (show (owns (c : Thread nD τ) (slotM i.1 i.2.1.castSucc i.2.2) fullShare.left (sentC A B i c) : sProp 𝕄)
    = iprop(∃ f, ⌜(slotM i.1 i.2.1.castSucc i.2.2).view.read (Elt F) f = sentC A B i c⌝
        ∗ ((slotM i.1 i.2.1.castSucc i.2.2).view.loc (c : Thread nD τ) ↦[(slotM i.1 i.2.1.castSucc i.2.2).view.set]{fullShare.left} f)) from rfl)) $$ HSl
  unfold slotAny ownsSatTc ownsSat
  icases HSl' with ⟨%fs, %hfs, HSl⟩
  icases HD with ⟨%fd, -, HD⟩
  unfold sendK Prog.lift
  iapply (Rounds.wp_send_pointsTo 𝒱₀ ER (sched A B) (c : Thread nD τ) none
    (c' := (tgt (dir i.1) c : Thread nD τ)) (src := pieceM i.1 i.2.1.castSucc i.2.2) (dst := pieceM i.1 i.2.1.succ i.2.2)
    (sS := .dma (sSem i.1 i.2.1 i.2.2)) (sem := .dma (rSem i.1 i.2.1 i.2.2))
    (κ₁ := K (c, some (false, i))) (κ₂ := K (tgt (dir i.1) c, some (true, i)))
    (r₁ := 0) (r₂ := 0) (d₁ := 0) (d₂ := 0) (fs := fs) (fd := fd) (q := fullShare.left)
    (duty_copy A B c (false, i)) (duty_copy A B (tgt (dir i.1) c) (true, i))
    () () N (piece_credit _ _ _) (amount_copy A B c (false, i) 0) (amount_copy A B (tgt (dir i.1) c) (true, i) 0) (owedL c l) rfl (W := W)
    (by
      refine BIBase.Entails.trans ?_ (Entails.of_eq (payload_send A B c i 0).symm)
      unfold sendPay slotO ownsTc owns
      iintro H; iexists fs; isplitr; · ipureintro; exact hfs
      rw [View.set_reshape]; iexact H)
    (by
      refine BIBase.Entails.trans ?_ (Entails.of_eq (payload_recv A B (tgt (dir i.1) c) i 0).symm)
      unfold recvPay slotO ownsTc owns; rw [org_tgt]
      iintro H; iexists _
      isplitr; rotate_left
      · rw [View.set_reshape]; iexact H
      · ipureintro; exact (read_write_reshape _ _ _ fd fs).trans hfs)) $$ [Ht1 Ht2 HSl HD HO]
  · isplitr; · iapply (recs_inv A B K (c, some (false, i))); iexact HR
    isplitr; · iapply (recs_inv A B K (tgt (dir i.1) c, some (true, i))); iexact HR
    isplitl [HSl]; · rw [View.set_reshape]; iexact HSl
    isplitl [HD]; · rw [View.set_reshape]; iexact HD
    isplitl [HO]; · iexact HO
    isplitl [Ht1]; · iexact Ht1
    isplitr; · iapply (recs_reached A B K (c, some (false, i))); iexact HR
    isplitl [Ht2]; · iexact Ht2
    iapply (recs_reached A B K (tgt (dir i.1) c, some (true, i))); iexact HR
  iintro ⟨Hc, HO⟩
  rw [wp_ret]; imodintro
  iapply Hk
  isplitl [HSr Hc]
  · isplitl [HSr]; · iexact HSr
    iexact Hc
  iexists W; iexact HO

/-- A copy's send and receive waits: the source slot is the device's again, the arriving piece is in its slot, and the
    two cells close at zero. -/
theorem wp_waits (i : Cp) (l : List Cp) (hl : ∀ j ∈ l, rank i < rank j) {Q : PUnit → sProp 𝕄} :
    iprop(recs A B K ∗ waitR c i ∗ flight A B c i ∗ owesL c l)
      ⊢ iprop(((over c i ∗ slotO c i.1 i.2.1.succ i.2.2 fullShare (sentC A B i (org (dir i.1) c)) ∗ owesL c l) -∗ Q ⟨⟩)
          -∗ WP c (waitK i.1 i.2.1 i.2.2) Q) := by
  have hs : ∀ j ∈ l, ckLv (some (some (false, i))) < rank j := fun j _ => by show 0 < rank j; unfold rank; omega
  unfold waitR flight owesL over
  iintro ⟨#HR, ⟨HaS, HaR, HcR⟩, ⟨HSr, HcS⟩, ⟨%W, HO⟩⟩ Hk
  unfold waitK
  simp only [Prog.lift, Prog.bind_op, Prog.bind_ret]
  iapply (Rounds.wp_wait_rest_token 𝒱₀ ER (sched A B) (c : Thread nD τ) none (κ := K (c, some (false, i)))
      (sm := .dma (sSem i.1 i.2.1 i.2.2)) (k' := N)
      (fun _ => (wpE_waitDma2_eq 𝒱₀ (c : Thread nD τ) none Set.univ _).trans (by rw [piece_credit])) (Set.mem_univ _) () (O := owedL c l) (W := W) (R := 0) (m := 0) (T := ∅)
      ((Nat.zero_add _).trans (expect_copy A B c (false, i)).symm)) $$ [HcS HO HaS]
  · isplitr; · iapply (recs_inv A B K (c, some (false, i))); iexact HR
    isplitl [HcS]; · iexact HcS
    isplitl [HO]; · iexact HO
    isplitr; · iapply (mayWait_cell c (some (false, i)) l hs); iapply (recs_lev A B K); iexact HR
    iexact HaS
  iintro ⟨HO, HaS, -, Hp⟩
  ihave HSl := (Entails.of_eq (rest_send A B c i)) $$ Hp
  iapply (Rounds.wp_wait_rest_token 𝒱₀ ER (sched A B) (c : Thread nD τ) none (κ := K (c, some (true, i)))
      (sm := .dma (rSem i.1 i.2.1 i.2.2)) (k' := N)
      (fun _ => (wpE_waitDma2_eq 𝒱₀ (c : Thread nD τ) none Set.univ _).trans (by rw [piece_credit])) (Set.mem_univ _) () (O := owedL c l) (R := 0) (m := 0) (T := ∅)
      ((Nat.zero_add _).trans (expect_copy A B c (true, i)).symm)) $$ [HcR HO HaR]
  · isplitr; · iapply (recs_inv A B K (c, some (true, i))); iexact HR
    isplitl [HcR]; · iexact HcR
    isplitl [HO]; · iexact HO
    isplitr; · iapply (mayWait_cell c (some (true, i)) l hl); iapply (recs_lev A B K); iexact HR
    iexact HaR
  iintro ⟨HO, HaR, -, Hp⟩
  ihave HD := (Entails.of_eq (rest_recv A B c i)) $$ Hp
  imod (Rounds.cell_close ER (sched A B) (Set.mem_univ (K (c, some (false, i)))) (fun h => h) (R := 0 + 1) (duties_later A B (sCell c i))) $$ [HaS] with HzS
  · isplitr; · iapply (recs_inv A B K (c, some (false, i))); iexact HR
    iexact HaS
  imod (Rounds.cell_close ER (sched A B) (Set.mem_univ (K (c, some (true, i)))) (fun h => h) (R := 0 + 1) (duties_later A B (rCell c i))) $$ [HaR] with HzR
  · isplitr; · iapply (recs_inv A B K (c, some (true, i))); iexact HR
    iexact HaR
  rw [wp_ret]; imodintro
  iapply Hk
  unfold sendPay recvPay slotO slotAny
  isplitl [HSl HSr HzS HzR]
  · isplitl [HSl HSr]
    · iapply (ownsSat_intro (c : Thread nD τ) (slotM i.1 i.2.1.castSucc i.2.2) fullShare
        (Φ := fun _ : S1x128x2048.Idx → Elt F .bf16 => True) (X := sentC A B i c) trivial)
      iapply (owns_halves (c : Thread nD τ) (slotM i.1 i.2.1.castSucc i.2.2) fullShare (sentC A B i c)).2
      isplitl [HSl]; · iexact HSl
      iexact HSr
    isplitl [HzS] <;> iassumption
  isplitl [HD]; · iexact HD
  iexists _; iexact HO

/-! ## Slots -/

/-- Reading a slot's piece, held at any share. -/
theorem wp_slot_load (k s : Fin 4) (p : Fin 2) (q : PosShare TreeShare) (X : Vec F S1x128x2048 .bf16) {Q : Vec F S1x128x2048 .bf16 → sProp 𝕄} :
    slotO c k s p q X ⊢ iprop((slotO c k s p q X -∗ Q X) -∗ WP c (loadK k s p) Q) := by
  unfold slotO ownsTc owns
  iintro ⟨%f, %hf, H⟩ Hk
  unfold loadK Prog.lift
  iapply (wp_load_rect 𝒱₀ (c : Thread nD τ) none Set.univ (m := buf k) (r := slotR s p) (S := (slotM k s p).view.set) (q := q) (f := f)
    (Finset.Subset.refl _)) $$ H
  iintro H
  rw [wp_ret]; imodintro
  rw [show ((buf k).access (slotR s p)).read (Elt F) f = X from hf]
  iapply Hk
  iexists f; isplitr; · ipureintro; exact hf
  iexact H

/-- Reading a slot's piece whatever it holds. -/
theorem wp_slot_load_any (k s : Fin 4) (p : Fin 2) {Q : Vec F S1x128x2048 .bf16 → sProp 𝕄} :
    slotAny c k s p ⊢ iprop((∀ X, slotAny c k s p -∗ Q X) -∗ WP c (loadK k s p) Q) := by
  unfold slotAny
  iintro H Hk
  ihave H' := (ownsSat_elim (c : Thread nD τ) (slotM k s p) fullShare (fun _ : S1x128x2048.Idx → Elt F .bf16 => True)) $$ H
  icases H' with ⟨%X, -, H⟩
  iapply (wp_slot_load k s p fullShare X) $$ H
  iintro H
  iapply Hk
  iapply (ownsSat_intro (c : Thread nD τ) (slotM k s p) fullShare (Φ := fun _ : S1x128x2048.Idx → Elt F .bf16 => True) (X := X) trivial)
  iexact H

/-- Writing a slot's piece. -/
theorem wp_slot_store (k s : Fin 4) (p : Fin 2) (v : Vec F S1x128x2048 .bf16) {Q : PUnit → sProp 𝕄} :
    slotAny c k s p ⊢ iprop((slotO c k s p fullShare v -∗ Q ⟨⟩) -∗ WP c (storeK k s p v) Q) := by
  unfold slotAny ownsSatTc ownsSat slotO ownsTc owns
  iintro ⟨%f, -, H⟩ Hk
  unfold storeK Prog.lift
  iapply (wp_store 𝒱₀ (c : Thread nD τ) none Set.univ (m := buf k) (r := slotR s p) (w := v) (Mk := Finset.univ) (S := (slotM k s p).view.set) (f := f)
    (Finset.Subset.refl _)) $$ H
  iintro H
  rw [wp_ret]; imodintro
  iapply Hk
  iexists _
  isplitr; rotate_left
  · iexact H
  · ipureintro; exact View.read_write_univ _ _

/-- Writing a piece and starting its copy. -/
theorem wp_pass (i : Cp) (v : Vec F S1x128x2048 .bf16) (hv : v = sentC A B i c) (n : Dev nD) (hn : n = tgt (dir i.1) c) (l : List Cp)
    {Q : PUnit → sProp 𝕄} :
    iprop(recs A B K ∗ sendR c i ∗ destR c i ∗ slotAny c i.1 i.2.1.castSucc i.2.2 ∗ owesL c (i :: l))
      ⊢ iprop(((flight A B c i ∗ owesL c l) -∗ Q ⟨⟩) -∗ WP c (passK i.1 i.2.1 i.2.2 v n) Q) := by
  subst hv
  iintro ⟨#HR, Ht, HD, HS, HO⟩ Hk
  unfold passK
  rw [WP_bind]
  iapply (wp_slot_load_any i.1 i.2.1.castSucc i.2.2) $$ HS
  iintro %X HS
  rw [WP_bind]
  iapply (wp_slot_store i.1 i.2.1.castSucc i.2.2 (sentC A B i c)) $$ HS
  iintro HS
  iapply (wp_send (A := A) (B := B) (K := K) i n hn l) $$ [Ht HD HS HO] [Hk]
  · isplitr; · iexact HR
    isplitl [Ht]; · iexact Ht
    isplitl [HD]; · iexact HD
    isplitl [HS]; · iexact HS
    iexact HO
  iexact Hk

/-- Waiting for a copy and reading what arrived. -/
theorem wp_recv (i : Cp) (l : List Cp) (hl : ∀ j ∈ l, rank i < rank j) {Q : Vec F S1x128x2048 .bf16 → sProp 𝕄} :
    iprop(recs A B K ∗ waitR c i ∗ flight A B c i ∗ owesL c l)
      ⊢ iprop(((over c i ∗ slotAny c i.1 i.2.1.succ i.2.2 ∗ owesL c l) -∗ Q (sentC A B i (org (dir i.1) c)))
          -∗ WP c (recvK i.1 i.2.1 i.2.2) Q) := by
  iintro H Hk
  unfold recvK
  rw [WP_bind]
  iapply (wp_waits (A := A) (B := B) (K := K) i l hl) $$ H
  iintro ⟨Hov, HS, HO⟩
  iapply (wp_slot_load i.1 i.2.1.succ i.2.2 fullShare (sentC A B i (org (dir i.1) c))) $$ HS
  iintro HS
  iapply Hk
  isplitl [Hov]; · iexact Hov
  isplitl [HS]
  · unfold slotAny
    iapply (ownsSat_intro (c : Thread nD τ) (slotM i.1 i.2.1.succ i.2.2) fullShare
      (Φ := fun _ : S1x128x2048.Idx → Elt F .bf16 => True) (X := sentC A B i (org (dir i.1) c)) trivial)
    iexact HS
  iexact HO

/-! ## The operands and the result -/

/-- The blocks of the two operands, staged. -/
def opsR (A : Dev nD → Vec F S2048x1024 .f32) (B : Dev nD → Vec F S1024x2048 .f32) (c : Dev nD) : sProp 𝕄 :=
  iprop((((c : Thread nD τ).loc cc0_stg0_0) ↦{fullShare} (A c : Buf (Elt F) ((c : Thread nD τ).loc cc0_stg0_0)))
    ∗ (((c : Thread nD τ).loc cc0_stg1_0) ↦{fullShare} (B c : Buf (Elt F) ((c : Thread nD τ).loc cc0_stg1_0))))

omit [FloatOps F] in
theorem hz : (![0, 0] : Fin 2 → Nat) = fun _ => 0 := funext fun a => by fin_cases a <;> rfl

/-- The product of rows of a block of `A` with the block of `B`. -/
theorem wp_prod (off : Fin 2 → ℕ) (h : ∀ a, off a + S256x1024.size a ≤ S2048x1024.size a) {Q : FVec F S256x2048 .f32 → sProp 𝕄} :
    opsR A B c ⊢ iprop((opsR A B c -∗ Q (prodF (rowsA (A c) off h) (B c))) -∗ WP c (prodK off h) Q) := by
  unfold opsR
  iintro ⟨HA, HB⟩ Hk
  unfold prodK
  simp only [Prog.lift, Prog.bind_op, Prog.bind_ret, Prog.pure_eq_ret]
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  rw [wp_ret]; imodintro
  have hb : bM.view.readAt (Elt F) (Rect.unit (s := S1024x2048) ![0, 0] S1024x2048.size inb_S1024x2048_S1024x2048_0_0).toLoadRect (B c) = B c :=
    Memref.readAt_unit_zero (Elt F) cc0_stg1_0 hz _ (B c)
  rw [hb, show aM.view.readAt (Elt F) (Rect.unit (s := S2048x1024) off S256x1024.size h).toLoadRect (A c) = rowsA (A c) off h from rfl]
  iapply Hk
  isplitl [HA] <;> iassumption

/-- A block of 128 rows of the result: the half, the device that finishes it, the piece. -/
abbrev Blk := Fin 2 × Dev nD × Fin 2

theorem blk_inb : ∀ (b : Blk) (a), (![1024 * b.1.val + 256 * b.2.1.val + 128 * b.2.2.val, 0] : Fin 2 → ℕ) a + S128x2048.size a ≤ S2048x2048.size a := by
  decide

/-- A block's rectangle. -/
abbrev blkR (b : Blk) : Rect S2048x2048 :=
  Rect.unit (s := S2048x2048) ![1024 * b.1.val + 256 * b.2.1.val + 128 * b.2.2.val, 0] S128x2048.size (blk_inb b)

/-- The result with the blocks `l` filled from `T`. -/
def outR (c : Dev nD) (T : Blk → FVec F S128x2048 .f32) (l : List Blk) : sProp 𝕄 :=
  iprop(∃ f : Buf (Elt F) ((c : Thread nD τ).loc cc0_stg2_0),
    ⌜∀ b ∈ l, ∀ j, (f : Vec F S2048x2048 .f32) ((blkR b).emb j) = T b j⌝ ∗ (((c : Thread nD τ).loc cc0_stg2_0) ↦{fullShare} f))

omit [FloatOps F] in
/-- Writing through a block's view: the block reads what was written, -/
theorem put_same (f : Vec F S2048x2048 .f32) (v : FVec F S128x2048 .f32) (b : Blk) (j : S128x2048.Idx) :
    (oM.access (blkR b)).write (Elt F) f v Finset.univ ((blkR b).emb j) = v j := by
  have h := View.write_emb_of_mem (v := oM.access (blkR b)) (Val := Elt F) f v (Finset.mem_univ j)
  exact h

/-- Blocks are apart. -/
theorem blk_apart (b b' : Blk) (h : b' ≠ b) (j : S128x2048.Idx) : (blkR b').emb j ∉ (blkR b).set := by
  intro hm
  have h0 := (Rect.mem_set_unit.mp hm) 0
  have hv : ((blkR b').emb j 0 : ℕ) = 1024 * b'.1.val + 256 * b'.2.1.val + 128 * b'.2.2.val + (j 0).val := by
    rw [Rect.emb_apply]; simp
  have hj : (j 0).val < 128 := (j 0).isLt
  obtain ⟨δ, o, p⟩ := b
  obtain ⟨δ', o', p'⟩ := b'
  simp only [Matrix.cons_val_zero] at h0 hv
  rw [hv] at h0
  have h1 := δ.isLt; have h2 := o.isLt; have h3 := p.isLt
  have h1' := δ'.isLt; have h2' := o'.isLt; have h3' := p'.isLt
  change _ < 4 at h2; change _ < 4 at h2'
  apply h
  have e1 : δ'.val = δ.val := by omega
  have e2 : o'.val = o.val := by omega
  have e3 : p'.val = p.val := by omega
  rw [Fin.ext e1, Fin.ext e2, Fin.ext e3]

omit [FloatOps F] in
/-- and the other blocks what they held. -/
theorem put_other (f : Vec F S2048x2048 .f32) (v : FVec F S128x2048 .f32) (b b' : Blk) (h : b' ≠ b) (j : S128x2048.Idx) :
    (oM.access (blkR b)).write (Elt F) f v Finset.univ ((blkR b').emb j) = f ((blkR b').emb j) := by
  refine View.write_of_not_mem (v := oM.access (blkR b)) (Val := Elt F) f v Finset.univ (i := (blkR b').emb j) ?_
  intro hm
  have e : (oM.access (blkR b)).setOn Finset.univ = (blkR b).set := (View.setOn_univ _).trans (View.set_slice_whole cc0_stg2_0 (blkR b))
  rw [e] at hm
  exact blk_apart b b' h j hm

/-- Putting rows into the result at a block. -/
theorem wp_put (T : Blk → FVec F S128x2048 .f32) (l : List Blk) (b : Blk) (off : Fin 2 → ℕ) (h : ∀ a, off a + S128x2048.size a ≤ S2048x2048.size a)
    (v : FVec F S128x2048 .f32) (hoff : off = ![1024 * b.1.val + 256 * b.2.1.val + 128 * b.2.2.val, 0]) (hv : v = T b) {Q : PUnit → sProp 𝕄} :
    outR c T l ⊢ iprop((outR c T (b :: l) -∗ Q ⟨⟩) -∗ WP c (putK off h v) Q) := by
  subst hoff
  subst hv
  unfold outR
  iintro ⟨%f, %hf, H⟩ Hk
  unfold putK
  simp only [Prog.lift, Prog.bind_op, Prog.bind_ret]
  iapply (wp_load 𝒱₀ (c : Thread nD τ) none Set.univ (m := oM) (Finset.subset_univ _)) $$ H; iintro H
  iapply (wp_store 𝒱₀ (c : Thread nD τ) none Set.univ (m := oM) (r := blkR b) (Mk := Finset.univ) (Finset.subset_univ _)) $$ H; iintro H
  rw [wp_ret]; imodintro
  iapply Hk
  iexists _
  isplitr; rotate_left
  · iexact H
  · ipureintro
    intro b' hb' j
    by_cases hbb : b' = b
    · subst hbb
      exact put_same f (T b') b' j
    · have hm : b' ∈ l := by
        rcases List.mem_cons.mp hb' with h' | h'
        · exact absurd h' hbb
        · exact h'
      exact (put_other f (T b) b b' hbb j).trans (hf b' hm j)

end Cert.KernelIdeal

end
-- ==== Proof.Fill.lean ====
/-
  Filling a reduce buffer's first slot: one write of 256 rows over the slot's two pieces.
-/
module

public import proofs.«01_k».proof.Proof.Steps
public import Idealize.ShloMosaic.Lib.Pipeline.Value

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-- The rectangle of slot 0. -/
abbrev chunkR : Rect S4x256x2048 :=
  Rect.unit (s := S4x256x2048) ![0, 0, 0] S1x256x2048.size inb_S4x256x2048_S1x256x2048_0_0_0

/-- Where row `j` of piece `p` lies in the slot. -/
def inChunk (p : Fin 2) (j : S1x128x2048.Idx) : S1x256x2048.Idx := fun a => match a with
  | ⟨0, _⟩ => ⟨0, Nat.one_pos⟩
  | ⟨1, _⟩ => ⟨128 * p.val + (j 1).val, by have h : (j 1).val < 128 := (j 1).isLt; have := p.isLt; show _ < 256; omega⟩
  | ⟨2, _⟩ => j 2

/-- A piece's rectangle is that part of the slot's. -/
theorem slot_emb (p : Fin 2) (j : S1x128x2048.Idx) : (slotR 0 p).emb j = chunkR.emb (inChunk p j) := by
  have h0 : (j 0).val < 1 := (j 0).isLt
  funext a
  apply Fin.ext
  rw [Rect.emb_apply, Rect.emb_apply]
  match a with
  | ⟨0, _⟩ => show 0 + 1 * (j 0).val = 0 + 1 * 0; omega
  | ⟨1, _⟩ => show 128 * p.val + 1 * (j 1).val = 0 + 1 * (128 * p.val + (j 1).val); omega
  | ⟨2, _⟩ => show 0 + 1 * (j 2).val = 0 + 1 * (j 2).val; omega

/-- The slot's elements are its two pieces'. -/
theorem chunk_subset : (chunkR.set : Finset S4x256x2048.Idx) ⊆ (slotR 0 0).set ∪ (slotR 0 1).set := by
  intro i hi
  have h := Rect.mem_set_unit.mp hi
  rw [Finset.mem_union, Rect.mem_set_unit, Rect.mem_set_unit]
  have h0 := h 0; have h1 := h 1; have h2 := h 2
  simp only [Matrix.cons_val_zero, Matrix.cons_val_one, Matrix.cons_val_two] at h0 h1 h2
  have h0' : (i 0).val < 0 + 1 := h0.2
  have h1' : (i 1).val < 0 + 256 := h1.2
  have h2' : (i 2).val < 0 + 2048 := h2.2
  by_cases hlt : (i 1).val < 128
  · refine Or.inl fun a => ?_
    match a with
    | ⟨0, _⟩ => exact ⟨Nat.zero_le _, h0'⟩
    | ⟨1, _⟩ => exact ⟨Nat.zero_le _, by show (i 1).val < 128 * 0 + 128; omega⟩
    | ⟨2, _⟩ => exact ⟨Nat.zero_le _, h2'⟩
  · refine Or.inr fun a => ?_
    match a with
    | ⟨0, _⟩ => exact ⟨Nat.zero_le _, h0'⟩
    | ⟨1, _⟩ => exact ⟨by show 128 * 1 ≤ (i 1).val; omega, by show (i 1).val < 128 * 1 + 128; omega⟩
    | ⟨2, _⟩ => exact ⟨Nat.zero_le _, h2'⟩

/-- Different pieces of slots are apart. -/
theorem slots_apart (s s' : Fin 4) (p p' : Fin 2) (h : (s, p) ≠ (s', p')) : Disjoint (slotR s p).set (slotR s' p').set := by
  rw [Finset.disjoint_left]
  intro i hi hi'
  have h0 := Rect.mem_set_unit.mp hi 0; have h1 := Rect.mem_set_unit.mp hi 1
  have h0' := Rect.mem_set_unit.mp hi' 0; have h1' := Rect.mem_set_unit.mp hi' 1
  have a0 : s.val ≤ (i 0).val ∧ (i 0).val < s.val + 1 := h0
  have a0' : s'.val ≤ (i 0).val ∧ (i 0).val < s'.val + 1 := h0'
  have a1 : 128 * p.val ≤ (i 1).val ∧ (i 1).val < 128 * p.val + 128 := h1
  have a1' : 128 * p'.val ≤ (i 1).val ∧ (i 1).val < 128 * p'.val + 128 := h1'
  have e1 : s = s' := Fin.ext (by omega)
  have e2 : p = p' := Fin.ext (by omega)
  exact h (by rw [e1, e2])

/-- A chunk stored whole reads, piece by piece, as its pieces stored. -/
theorem narrow2F_piece (x : FVec F S256x2048 .f32) (p : Fin 2) (j : S1x128x2048.Idx) :
    narrow2F x (inChunk p j) = narrowF (halfF p x) j := by
  unfold narrow2F narrowF halfF
  have e1 := shapeCast_addUnit_apply (α := F .bf16) ![256, 2048] (truncf .bf16 x bitsLt_bf16_f32) shapeCasts_S256x2048_S1x256x2048 (inChunk p j)
  have e2 := shapeCast_addUnit_apply (α := F .bf16) ![128, 2048]
    (truncf .bf16 (extractStridedSlice S128x2048 ![128 * p.val, 0] x (half_slices p)) bitsLt_bf16_f32) shapeCasts_S128x2048_S1x128x2048 j
  refine e1.trans (Eq.trans ?_ e2.symm)
  show FloatOps.truncf .bf16 bitsLt_bf16_f32 (x _) = FloatOps.truncf .bf16 bitsLt_bf16_f32 (extractStridedSlice S128x2048 ![128 * p.val, 0] x (half_slices p) _)
  rw [extractStridedSlice_apply ![128 * p.val, 0] x (half_slices p) (fun a : Fin 2 => j a.succ) (fun a => inChunk p j a.succ) fun a => ?_]
  match a with
  | ⟨0, _⟩ => rfl
  | ⟨1, _⟩ => show (j 2).val = 0 + (j 2).val; omega

variable {A : Dev nD → Vec F S2048x1024 .f32} {B : Dev nD → Vec F S1024x2048 .f32} {c : Dev nD}

/-- Filling slot 0 of a direction's reduce buffer. -/
theorem wp_fill (δ : Fin 2) {Q : PUnit → sProp 𝕄} :
    iprop(opsR A B c ∗ slotAny c (rsK δ) 0 0 ∗ slotAny c (rsK δ) 0 1)
      ⊢ iprop(((opsR A B c ∗ slotO c (rsK δ) 0 0 fullShare (rsC A B δ 0 0 c) ∗ slotO c (rsK δ) 0 1 fullShare (rsC A B δ 1 0 c)) -∗ Q ⟨⟩)
          -∗ WP c (fillK c δ) Q) := by
  iintro ⟨Hop, H0, H1⟩ Hk
  unfold fillK
  rw [WP_bind]
  iapply (wp_prod (firstOff c δ) (firstOff_inb c δ)) $$ Hop
  iintro Hop
  unfold slotAny ownsSatTc ownsSat
  icases H0 with ⟨%f0, -, H0⟩
  icases H1 with ⟨%f1, -, H1⟩
  have hdis : Disjoint (slotM (rsK δ) 0 0).view.set (slotM (rsK δ) 0 1).view.set := by
    rw [View.set_slice, View.set_slice]; exact (Finset.disjoint_map _).mpr (slots_apart 0 0 0 1 (by decide))
  have hsub : ((buf (rsK δ)).access chunkR).set ⊆ (slotM (rsK δ) 0 0).view.set ∪ (slotM (rsK δ) 0 1).view.set := by
    rw [View.set_slice, View.set_slice, View.set_slice, ← Finset.map_union]; exact Finset.map_subset_map.mpr chunk_subset
  ihave H := (pointsTo_join (ℓ := (buf (rsK δ)).view.loc (c : Thread nD τ)) (q := fullShare) hdis) $$ [H0 H1]
  · isplitl [H0]; · iexact H0
    iexact H1
  simp only [Prog.lift, Prog.bind_op, Prog.bind_ret]
  iapply (wp_load_rect 𝒱₀ (c : Thread nD τ) none Set.univ (m := buf (rsK δ)) (r := chunkR) hsub) $$ H; iintro H
  iapply (wp_store 𝒱₀ (c : Thread nD τ) none Set.univ (m := buf (rsK δ)) (r := chunkR) (Mk := Finset.univ) hsub) $$ H; iintro H
  rw [wp_ret]; imodintro
  ihave H' := (pointsTo_union hdis).1 $$ H
  icases H' with ⟨H0, H1⟩
  have hrd (p : Fin 2) (f : (buf (rsK δ)).view.ty.Contents (Elt F)) (x : FVec F S256x2048 .f32) :
      (slotM (rsK δ) 0 p).view.read (Elt F) (((buf (rsK δ)).access chunkR).write (Elt F) f (narrow2F x) Finset.univ) = narrowF (halfF p x) := by
    funext j
    have h1 := congrFun (((buf (rsK δ)).access chunkR).read_write_univ (Val := Elt F) f (narrow2F x)) (inChunk p j)
    rw [narrow2F_piece] at h1
    rw [← h1]
    exact congrArg ((buf (rsK δ)).view.read (Elt F) _) (slot_emb p j)
  iapply Hk
  isplitl [Hop]; · iexact Hop
  unfold slotO ownsTc owns
  isplitl [H0]
  · iexists _; isplitr; rotate_left
    · iexact H0
    · ipureintro; exact hrd 0 _ _
  · iexists _; isplitr; rotate_left
    · iexact H1
    · ipureintro; exact hrd 1 _ _

end Cert.KernelIdeal

end
-- ==== Proof.Pieces.lean ====
/-
  One rule per part of the body: a reduce step's piece, the last one's, a gather step's piece, the last
  one's, both directions at a time.
-/
module

public import proofs.«01_k».proof.Proof.Fill

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## Both directions' resources of a step and a piece -/

section Two
variable (A : Dev nD → Vec F S2048x1024 .f32) (B : Dev nD → Vec F S1024x2048 .f32)

/-- What waiting for a step's piece uses, in both directions. -/
def wait2 (c : Dev nD) (k : Fin 2 → Fin 4) (s : Fin 3) (p : Fin 2) : sProp 𝕄 :=
  iprop(waitR c (k 0, s, p) ∗ waitR c (k 1, s, p))
/-- The tokens starting it uses, -/
def send2 (c : Dev nD) (k : Fin 2 → Fin 4) (s : Fin 3) (p : Fin 2) : sProp 𝕄 :=
  iprop(sendR c (k 0, s, p) ∗ sendR c (k 1, s, p))
/-- and the slots it lands in. -/
def dest2 (c : Dev nD) (k : Fin 2 → Fin 4) (s : Fin 3) (p : Fin 2) : sProp 𝕄 :=
  iprop(destR c (k 0, s, p) ∗ destR c (k 1, s, p))
/-- The two copies under way. -/
def flight2 (c : Dev nD) (k : Fin 2 → Fin 4) (s : Fin 3) (p : Fin 2) : sProp 𝕄 :=
  iprop(flight A B c (k 0, s, p) ∗ flight A B c (k 1, s, p))
/-- The two copies done with. -/
def over2 (c : Dev nD) (k : Fin 2 → Fin 4) (s : Fin 3) (p : Fin 2) : sProp 𝕄 :=
  iprop(over c (k 0, s, p) ∗ over c (k 1, s, p))
/-- A slot's piece of both directions' buffers. -/
def slot2 (c : Dev nD) (k : Fin 2 → Fin 4) (s : Fin 4) (p : Fin 2) : sProp 𝕄 :=
  iprop(slotAny c (k 0) s p ∗ slotAny c (k 1) s p)

/-- What the result holds in each block: the rows the device finishes itself at full precision, the others as they
    were handed round. -/
def outT (c : Dev nD) (b : Blk) : FVec F S128x2048 .f32 :=
  if b.2.1 = c then zC A B b.1 b.2.2 c else wideF (narrowF (zC A B b.1 b.2.2 b.2.1))

end Two

/-- The rows a device finishes lie at its own block, -/
theorem ownOff_eq : ∀ (c : Dev nD) (p δ : Fin 2), ownOff c p δ = ![1024 * δ.val + 256 * c.val + 128 * p.val, 0] := by decide
/-- the rows it takes at gather step `h` at the block of the device `h + 1` steps back, which is another device. -/
theorem gatOff_eq : ∀ (c : Dev nD) (h : Fin 3) (p δ : Fin 2),
    gatOff c h p δ = ![1024 * δ.val + 256 * ((org δ)^[h.val + 1] c).val + 128 * p.val, 0] ∧ (org δ)^[h.val + 1] c ≠ c := by decide

variable {A : Dev nD → Vec F S2048x1024 .f32} {B : Dev nD → Vec F S1024x2048 .f32} {K : Dev nD × CK → ℕ} {c : Dev nD}

/-- Both directions' receive cells of a step and a piece have one level. -/
theorem rank_rs (s : Fin 3) (p : Fin 2) : rank (rsK 1, s, p) = rank (0, s, p) := by revert s p; decide
theorem rank_ag (s : Fin 3) (p : Fin 2) : rank (agK 1, s, p) = rank (2, s, p) := by revert s p; decide

/-- Piece `p` of reduce step `s`. -/
theorem wp_reduce (s p : Fin 2) (l : List Cp) (hl : ∀ j ∈ (0, s.succ, p) :: (1, s.succ, p) :: l, rank (0, s.castSucc, p) < rank j) {Q : PUnit → sProp 𝕄} :
    iprop(recs A B K ∗ wait2 c rsK s.castSucc p ∗ flight2 A B c rsK s.castSucc p ∗ send2 c rsK s.succ p ∗ dest2 c rsK s.succ p
        ∗ owesL c ((0, s.succ, p) :: (1, s.succ, p) :: l))
      ⊢ iprop(((over2 c rsK s.castSucc p ∗ flight2 A B c rsK s.succ p ∗ owesL c l) -∗ Q ⟨⟩)
          -∗ WP c (reduceK c s p (addC A B 0 s.castSucc c) (addC A B 1 s.castSucc c)) Q) := by
  unfold wait2 flight2 send2 dest2 over2
  iintro ⟨#HR, ⟨Hw0, Hw1⟩, ⟨Hf0, Hf1⟩, ⟨Ht0, Ht1⟩, ⟨Hd0, Hd1⟩, HO⟩ Hk
  unfold reduceK
  rw [WP_bind]
  iapply (wp_recv (A := A) (B := B) (K := K) (rsK 0, s.castSucc, p) _ hl) $$ [Hw0 Hf0 HO]
  · isplitr; · iexact HR
    isplitl [Hw0]; · iexact Hw0
    isplitl [Hf0]; · iexact Hf0
    iexact HO
  iintro ⟨Hv0, Hs0, HO⟩
  rw [WP_bind]
  iapply (wp_recv (A := A) (B := B) (K := K) (rsK 1, s.castSucc, p) _ (by rw [rank_rs]; exact hl)) $$ [Hw1 Hf1 HO]
  · isplitr; · iexact HR
    isplitl [Hw1]; · iexact Hw1
    isplitl [Hf1]; · iexact Hf1
    iexact HO
  iintro ⟨Hv1, Hs1, HO⟩
  rw [WP_bind]
  iapply (wp_pass (A := A) (B := B) (K := K) (rsK 0, s.succ, p) _ (by rw [sentC_rs, sentC_rs, rsC_succ]) _ (peer_eq c 0) _) $$ [Ht0 Hd0 Hs0 HO]
  · isplitr; · iexact HR
    isplitl [Ht0]; · iexact Ht0
    isplitl [Hd0]; · iexact Hd0
    isplitl [Hs0]; · iexact Hs0
    iexact HO
  iintro ⟨Hf0, HO⟩
  iapply (wp_pass (A := A) (B := B) (K := K) (rsK 1, s.succ, p) _ (by rw [sentC_rs, sentC_rs, rsC_succ]) _ (peer_eq c 1) _) $$ [Ht1 Hd1 Hs1 HO]
  · isplitr; · iexact HR
    isplitl [Ht1]; · iexact Ht1
    isplitl [Hd1]; · iexact Hd1
    isplitl [Hs1]; · iexact Hs1
    iexact HO
  iintro ⟨Hf1, HO⟩
  iapply Hk
  isplitl [Hv0 Hv1]; · isplitl [Hv0] <;> iassumption
  isplitl [Hf0 Hf1]; · isplitl [Hf0] <;> iassumption
  iexact HO

/-- Rows a device finishes, put into the result and started round the ring. -/
theorem wp_own (δ p : Fin 2) (l : List Cp) (bs : List Blk) {Q : PUnit → sProp 𝕄} :
    iprop(recs A B K ∗ slotAny c (agK δ) 0 p ∗ sendR c (agK δ, 0, p) ∗ destR c (agK δ, 0, p) ∗ outR c (outT A B c) bs
        ∗ owesL c ((agK δ, 0, p) :: l))
      ⊢ iprop(((flight A B c (agK δ, 0, p) ∗ outR c (outT A B c) ((δ, c, p) :: bs) ∗ owesL c l) -∗ Q ⟨⟩)
          -∗ WP c (ownK c δ p (zC A B δ p c)) Q) := by
  iintro ⟨#HR, Hs, Ht, Hd, Hout, HO⟩ Hk
  unfold ownK
  rw [WP_bind]
  iapply (wp_put (outT A B c) bs (δ, c, p) _ _ (zC A B δ p c) (ownOff_eq c p δ) (if_pos rfl).symm) $$ Hout
  iintro Hout
  iapply (wp_pass (A := A) (B := B) (K := K) (agK δ, 0, p) _ (by rw [sentC_ag]; rfl) _ (by rw [peer_eq]; match δ with | 0 => rfl | 1 => rfl) _)
    $$ [Ht Hd Hs HO]
  · isplitr; · iexact HR
    isplitl [Ht]; · iexact Ht
    isplitl [Hd]; · iexact Hd
    isplitl [Hs]; · iexact Hs
    iexact HO
  iintro ⟨Hf, HO⟩
  iapply Hk
  isplitl [Hf]; · iexact Hf
  isplitl [Hout]; · iexact Hout
  iexact HO

/-- Piece `p` of the last reduce step. -/
theorem wp_last (p : Fin 2) (l : List Cp) (bs : List Blk) (hl : ∀ j ∈ (2, 0, p) :: (3, 0, p) :: l, rank (0, 2, p) < rank j) {Q : PUnit → sProp 𝕄} :
    iprop(recs A B K ∗ wait2 c rsK 2 p ∗ flight2 A B c rsK 2 p ∗ slot2 c agK 0 p ∗ send2 c agK 0 p ∗ dest2 c agK 0 p
        ∗ outR c (outT A B c) bs ∗ owesL c ((2, 0, p) :: (3, 0, p) :: l))
      ⊢ iprop(((over2 c rsK 2 p ∗ slot2 c rsK 3 p ∗ flight2 A B c agK 0 p ∗ outR c (outT A B c) ((1, c, p) :: (0, c, p) :: bs) ∗ owesL c l) -∗ Q ⟨⟩)
          -∗ WP c (lastK c p (addC A B 0 2 c) (addC A B 1 2 c)) Q) := by
  unfold wait2 flight2 send2 dest2 over2 slot2
  iintro ⟨#HR, ⟨Hw0, Hw1⟩, ⟨Hf0, Hf1⟩, ⟨Ha0, Ha1⟩, ⟨Ht0, Ht1⟩, ⟨Hd0, Hd1⟩, Hout, HO⟩ Hk
  unfold lastK
  rw [WP_bind]
  iapply (wp_recv (A := A) (B := B) (K := K) (rsK 0, 2, p) _ hl) $$ [Hw0 Hf0 HO]
  · isplitr; · iexact HR
    isplitl [Hw0]; · iexact Hw0
    isplitl [Hf0]; · iexact Hf0
    iexact HO
  iintro ⟨Hv0, Hs0, HO⟩
  rw [WP_bind]
  iapply (wp_recv (A := A) (B := B) (K := K) (rsK 1, 2, p) _ (by rw [rank_rs]; exact hl)) $$ [Hw1 Hf1 HO]
  · isplitr; · iexact HR
    isplitl [Hw1]; · iexact Hw1
    isplitl [Hf1]; · iexact Hf1
    iexact HO
  iintro ⟨Hv1, Hs1, HO⟩
  rw [sentC_rs A B 0, sentC_rs A B 1]
  rw [WP_bind]
  iapply (wp_own (A := A) (B := B) (K := K) 0 p _ bs) $$ [Ha0 Ht0 Hd0 Hout HO]
  · isplitr; · iexact HR
    isplitl [Ha0]; · iexact Ha0
    isplitl [Ht0]; · iexact Ht0
    isplitl [Hd0]; · iexact Hd0
    isplitl [Hout]; · iexact Hout
    iexact HO
  iintro ⟨Hf0, Hout, HO⟩
  iapply (wp_own (A := A) (B := B) (K := K) 1 p _ _) $$ [Ha1 Ht1 Hd1 Hout HO]
  · isplitr; · iexact HR
    isplitl [Ha1]; · iexact Ha1
    isplitl [Ht1]; · iexact Ht1
    isplitl [Hd1]; · iexact Hd1
    isplitl [Hout]; · iexact Hout
    iexact HO
  iintro ⟨Hf1, Hout, HO⟩
  iapply Hk
  isplitl [Hv0 Hv1]; · isplitl [Hv0] <;> iassumption
  isplitl [Hs0 Hs1]
  · isplitl [Hs0]; · iexact Hs0
    iexact Hs1
  isplitl [Hf0 Hf1]; · isplitl [Hf0] <;> iassumption
  isplitl [Hout]; · iexact Hout
  iexact HO

/-- What arrives at gather step `h` is what the device `h + 1` steps back finished. -/
theorem ag_arrived (δ p : Fin 2) (h : Fin 3) :
    sentC A B (agK δ, h, p) (org (dir (agK δ)) c) = narrowF (zC A B δ p ((org δ)^[h.val + 1] c)) := by
  rw [sentC_ag]
  match δ, h with
  | 0, 0 => rfl
  | 0, 1 => rfl
  | 0, 2 => rfl
  | 1, 0 => rfl
  | 1, 1 => rfl
  | 1, 2 => rfl

/-- Rows that arrived, held at any share of their slot, put into the result. -/
theorem wp_take (δ p : Fin 2) (h : Fin 3) (q : PosShare TreeShare) (bs : List Blk) {Q : PUnit → sProp 𝕄} :
    iprop(slotO c (agK δ) h.succ p q (sentC A B (agK δ, h, p) (org (dir (agK δ)) c)) ∗ outR c (outT A B c) bs)
      ⊢ iprop(((slotO c (agK δ) h.succ p q (sentC A B (agK δ, h, p) (org (dir (agK δ)) c))
            ∗ outR c (outT A B c) ((δ, (org δ)^[h.val + 1] c, p) :: bs)) -∗ Q ⟨⟩)
          -∗ WP c (takeK c δ h p) Q) := by
  iintro ⟨Hs, Hout⟩ Hk
  unfold takeK
  rw [WP_bind]
  iapply (wp_slot_load (agK δ) h.succ p q _) $$ Hs
  iintro Hs
  iapply (wp_put (outT A B c) bs (δ, (org δ)^[h.val + 1] c, p) _ _ _ (gatOff_eq c h p δ).1
    (by rw [ag_arrived]; exact (if_neg (gatOff_eq c h p δ).2).symm)) $$ Hout
  iintro Hout
  iapply Hk
  isplitl [Hs] <;> iassumption

/-- Piece `p` of gather step `h`. -/
theorem wp_gather (h p : Fin 2) (l : List Cp) (bs : List Blk) (hl : ∀ j ∈ (2, h.succ, p) :: (3, h.succ, p) :: l, rank (2, h.castSucc, p) < rank j)
    {Q : PUnit → sProp 𝕄} :
    iprop(recs A B K ∗ wait2 c agK h.castSucc p ∗ flight2 A B c agK h.castSucc p ∗ send2 c agK h.succ p ∗ dest2 c agK h.succ p
        ∗ outR c (outT A B c) bs ∗ owesL c ((2, h.succ, p) :: (3, h.succ, p) :: l))
      ⊢ iprop(((over2 c agK h.castSucc p ∗ flight2 A B c agK h.succ p
            ∗ outR c (outT A B c) ((1, (org 1)^[h.val + 1] c, p) :: (0, (org 0)^[h.val + 1] c, p) :: bs) ∗ owesL c l) -∗ Q ⟨⟩)
          -∗ WP c (gatherK c h p) Q) := by
  have hsent (δ : Fin 2) : sentC A B (agK δ, h.castSucc, p) (org (dir (agK δ)) c) = sentC A B (agK δ, h.succ, p) c := by
    rw [sentC_ag, sentC_ag, agC_succ]; match δ with | 0 => rfl | 1 => rfl
  unfold wait2 flight2 send2 dest2 over2
  iintro ⟨#HR, ⟨Hw0, Hw1⟩, ⟨Hf0, Hf1⟩, ⟨Ht0, Ht1⟩, ⟨Hd0, Hd1⟩, Hout, HO⟩ Hk
  unfold gatherK
  rw [WP_bind]
  iapply (wp_waits (A := A) (B := B) (K := K) (agK 0, h.castSucc, p) _ hl) $$ [Hw0 Hf0 HO]
  · isplitr; · iexact HR
    isplitl [Hw0]; · iexact Hw0
    isplitl [Hf0]; · iexact Hf0
    iexact HO
  iintro ⟨Hv0, Hs0, HO⟩
  rw [WP_bind]
  iapply (wp_waits (A := A) (B := B) (K := K) (agK 1, h.castSucc, p) _ (by rw [rank_ag]; exact hl)) $$ [Hw1 Hf1 HO]
  · isplitr; · iexact HR
    isplitl [Hw1]; · iexact Hw1
    isplitl [Hf1]; · iexact Hf1
    iexact HO
  iintro ⟨Hv1, Hs1, HO⟩
  rw [WP_bind]
  iapply (wp_send (A := A) (B := B) (K := K) (agK 0, h.succ, p) _ (peer_eq c 0) _) $$ [Ht0 Hd0 Hs0 HO]
  · isplitr; · iexact HR
    isplitl [Ht0]; · iexact Ht0
    isplitl [Hd0]; · iexact Hd0
    isplitl [Hs0]; · rw [← hsent 0]; iexact Hs0
    iexact HO
  iintro ⟨Hf0, HO⟩
  rw [WP_bind]
  iapply (wp_send (A := A) (B := B) (K := K) (agK 1, h.succ, p) _ (peer_eq c 1) _) $$ [Ht1 Hd1 Hs1 HO]
  · isplitr; · iexact HR
    isplitl [Ht1]; · iexact Ht1
    isplitl [Hd1]; · iexact Hd1
    isplitl [Hs1]; · rw [← hsent 1]; iexact Hs1
    iexact HO
  iintro ⟨Hf1, HO⟩
  unfold flight
  icases Hf0 with ⟨Hs0, Hc0⟩
  icases Hf1 with ⟨Hs1, Hc1⟩
  rw [WP_bind]
  iapply (wp_take (A := A) (B := B) 0 p h.castSucc fullShare.right bs) $$ [Hs0 Hout]
  · isplitl [Hs0]; · rw [hsent 0]; iexact Hs0
    iexact Hout
  iintro ⟨Hs0, Hout⟩
  iapply (wp_take (A := A) (B := B) 1 p h.castSucc fullShare.right _) $$ [Hs1 Hout]
  · isplitl [Hs1]; · rw [hsent 1]; iexact Hs1
    iexact Hout
  iintro ⟨Hs1, Hout⟩
  iapply Hk
  isplitl [Hv0 Hv1]; · isplitl [Hv0] <;> iassumption
  isplitl [Hs0 Hs1 Hc0 Hc1]
  · isplitl [Hs0 Hc0]
    · isplitl [Hs0]; · rw [← hsent 0]; iexact Hs0
      iexact Hc0
    · isplitl [Hs1]; · rw [← hsent 1]; iexact Hs1
      iexact Hc1
  isplitl [Hout]; · iexact Hout
  iexact HO

/-- Piece `p` of the last gather step. -/
theorem wp_end (p : Fin 2) (bs : List Blk) {Q : PUnit → sProp 𝕄} :
    iprop(recs A B K ∗ wait2 c agK 2 p ∗ flight2 A B c agK 2 p ∗ outR c (outT A B c) bs ∗ owesL c [])
      ⊢ iprop(((over2 c agK 2 p ∗ slot2 c agK 3 p
            ∗ outR c (outT A B c) ((1, (org 1)^[3] c, p) :: (0, (org 0)^[3] c, p) :: bs) ∗ owesL c []) -∗ Q ⟨⟩)
          -∗ WP c (endK c p) Q) := by
  unfold wait2 flight2 over2 slot2
  iintro ⟨#HR, ⟨Hw0, Hw1⟩, ⟨Hf0, Hf1⟩, Hout, HO⟩ Hk
  unfold endK
  rw [WP_bind]
  iapply (wp_waits (A := A) (B := B) (K := K) (agK 0, 2, p) _ (fun j hj => absurd hj (List.not_mem_nil))) $$ [Hw0 Hf0 HO]
  · isplitr; · iexact HR
    isplitl [Hw0]; · iexact Hw0
    isplitl [Hf0]; · iexact Hf0
    iexact HO
  iintro ⟨Hv0, Hs0, HO⟩
  rw [WP_bind]
  iapply (wp_waits (A := A) (B := B) (K := K) (agK 1, 2, p) _ (fun j hj => absurd hj (List.not_mem_nil))) $$ [Hw1 Hf1 HO]
  · isplitr; · iexact HR
    isplitl [Hw1]; · iexact Hw1
    isplitl [Hf1]; · iexact Hf1
    iexact HO
  iintro ⟨Hv1, Hs1, HO⟩
  rw [WP_bind]
  iapply (wp_take (A := A) (B := B) 0 p 2 fullShare bs) $$ [Hs0 Hout]
  · isplitl [Hs0] <;> iassumption
  iintro ⟨Hs0, Hout⟩
  iapply (wp_take (A := A) (B := B) 1 p 2 fullShare _) $$ [Hs1 Hout]
  · isplitl [Hs1] <;> iassumption
  iintro ⟨Hs1, Hout⟩
  iapply Hk
  have hany (δ : Fin 2) : slotO c (agK δ) 3 p fullShare (sentC A B (agK δ, 2, p) (org (dir (agK δ)) c)) ⊢ slotAny c (agK δ) 3 p :=
    ownsSat_intro (c : Thread nD τ) (slotM (agK δ) 3 p) fullShare (Φ := fun _ : S1x128x2048.Idx → Elt F .bf16 => True) trivial
  isplitl [Hv0 Hv1]; · isplitl [Hv0] <;> iassumption
  isplitl [Hs0 Hs1]
  · isplitl [Hs0]
    · iapply (hany 0); iexact Hs0
    · iapply (hany 1); iexact Hs1
  isplitl [Hout]; · iexact Hout
  iexact HO

end Cert.KernelIdeal

end
-- ==== Proof.Whole.lean ====
/-
  The whole body on one device: meeting the neighbours, opening the reduce phase, its steps, the gather phase.
-/
module

public import proofs.«01_k».proof.Proof.Pieces

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Copies by phase, step and piece -/

omit [FloatOps F] in
theorem four_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A resource of every copy, by phase, step and piece with both directions together. -/
theorem copies_eq (Φ : Cp → sProp 𝕄) : bigSep Finset.univ Φ
    = iprop((bigSep Finset.univ fun sp : Fin 3 × Fin 2 => iprop(Φ (rsK 0, sp) ∗ Φ (rsK 1, sp)))
        ∗ (bigSep Finset.univ fun sp : Fin 3 × Fin 2 => iprop(Φ (agK 0, sp) ∗ Φ (agK 1, sp)))) := by
  rw [bigSep_univ_prod, four_eq, bigSep_sep', bigSep_sep']
  refine BI.equiv_iff.mp ⟨?_, ?_⟩
  · show (iprop(_ ∗ _ ∗ _ ∗ _) : sProp 𝕄) ⊢ _
    iintro ⟨H0, H1, H2, H3⟩
    isplitl [H0 H1]
    · isplitl [H0] <;> iassumption
    · isplitl [H2] <;> iassumption
  · show (iprop((_ ∗ _) ∗ _ ∗ _) : sProp 𝕄) ⊢ iprop(_ ∗ _ ∗ _ ∗ _)
    iintro ⟨⟨H0, H1⟩, H2, H3⟩
    isplitl [H0]; · iexact H0
    isplitl [H1]; · iexact H1
    isplitl [H2] <;> iassumption

omit [FloatOps F] in
/-- The six steps and pieces of a phase. -/
theorem six_eq (Φ : Fin 3 × Fin 2 → sProp 𝕄) : bigSep Finset.univ Φ
    = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
theorem eight_eq (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

omit [FloatOps F] in
/-- A buffer's pieces: the first slot's, and those copies land in; -/
theorem eight_first (Φ : Fin 4 × Fin 2 → sProp 𝕄) : bigSep Finset.univ Φ
    = iprop((bigSep Finset.univ fun sp : Fin 3 × Fin 2 => Φ (sp.1.succ, sp.2)) ∗ Φ (0, 0) ∗ Φ (0, 1)) := by
  rw [eight_eq, six_eq]
  refine BI.equiv_iff.mp ⟨?_, ?_⟩
  · show _ ⊢ iprop((Φ (1, 0) ∗ Φ (1, 1) ∗ Φ (2, 0) ∗ Φ (2, 1) ∗ Φ (3, 0) ∗ Φ (3, 1)) ∗ _)
    iintro ⟨H0, H1, H⟩
    isplitl [H]; · iexact H
    isplitl [H0] <;> iassumption
  · show iprop((Φ (1, 0) ∗ Φ (1, 1) ∗ Φ (2, 0) ∗ Φ (2, 1) ∗ Φ (3, 0) ∗ Φ (3, 1)) ∗ _) ⊢ _
    iintro ⟨H, H0, H1⟩
    isplitl [H0]; · iexact H0
    isplitl [H1] <;> iassumption

omit [FloatOps F] in
/-- or those copies leave from, and the last slot's. -/
theorem eight_last (Φ : Fin 4 × Fin 2 → sProp 𝕄) : bigSep Finset.univ Φ
    = iprop((bigSep Finset.univ fun sp : Fin 3 × Fin 2 => Φ (sp.1.castSucc, sp.2)) ∗ Φ (3, 0) ∗ Φ (3, 1)) := by
  rw [eight_eq, six_eq]
  refine BI.equiv_iff.mp ⟨?_, ?_⟩
  · show _ ⊢ iprop((Φ (0, 0) ∗ Φ (0, 1) ∗ Φ (1, 0) ∗ Φ (1, 1) ∗ Φ (2, 0) ∗ Φ (2, 1)) ∗ _)
    iintro ⟨H0, H1, H2, H3, H4, H5, H⟩
    isplitr [H]; rotate_left
    · iexact H
    isplitl [H0]; · iexact H0
    isplitl [H1]; · iexact H1
    isplitl [H2]; · iexact H2
    isplitl [H3]; · iexact H3
    isplitl [H4] <;> iassumption
  · show iprop((Φ (0, 0) ∗ Φ (0, 1) ∗ Φ (1, 0) ∗ Φ (1, 1) ∗ Φ (2, 0) ∗ Φ (2, 1)) ∗ _) ⊢ _
    iintro ⟨⟨H0, H1, H2, H3, H4, H5⟩, H⟩
    isplitl [H0]; · iexact H0
    isplitl [H1]; · iexact H1
    isplitl [H2]; · iexact H2
    isplitl [H3]; · iexact H3
    isplitl [H4]; · iexact H4
    isplitl [H5] <;> iassumption

/-- A buffer whatever it holds. -/
abbrev bufAny (c : Dev nD) (k : Fin 4) : sProp 𝕄 :=
  bigSep Finset.univ fun sp : Fin 4 × Fin 2 => slotAny c k sp.1 sp.2

omit [FloatOps F] in
/-- The slots a direction's copies land in, phase by phase. -/
theorem landing_eq (c : Dev nD) (δ : Fin 2) : landing (F := F) c δ
    = iprop((bigSep Finset.univ fun sp : Fin 3 × Fin 2 => slotAny c (rsK δ) sp.1.succ sp.2)
        ∗ (bigSep Finset.univ fun sp : Fin 3 × Fin 2 => slotAny c (agK δ) sp.1.succ sp.2)) := by
  unfold landing
  rw [bigSep_univ_prod, bigSep_univ_eq_bigSepL [0, 1] (by decide) (by decide)]
  rfl

omit [FloatOps F] in
/-- Both neighbours' landing slots are the destinations of this device's copies. -/
theorem landings (c : Dev nD) : iprop(landing (F := F) (nxt c) 0 ∗ landing (prv c) 1)
    ⊢ iprop((bigSep Finset.univ fun sp : Fin 3 × Fin 2 => dest2 c rsK sp.1 sp.2)
        ∗ (bigSep Finset.univ fun sp : Fin 3 × Fin 2 => dest2 c agK sp.1 sp.2)) := by
  rw [landing_eq, landing_eq]
  unfold dest2 destR
  rw [bigSep_sep', bigSep_sep']
  iintro ⟨⟨H0, H2⟩, H1, H3⟩
  isplitl [H0 H1]
  · isplitl [H0]; · iexact H0
    iexact H1
  · isplitl [H2]; · iexact H2
    iexact H3

/-! ## The body's resources -/

/-- What a device's body starts from besides its blocks: its barrier cell's position and credit, the tokens of its two
    signals, every copy's waiting and starting resources, and its four buffers. -/
def bodyStart (c : Dev nD) : sProp 𝕄 :=
  iprop((atPos ER (barCell c) 0 ∅ 0 ∗ cred (tallyAt (barCell c) () 2) ∗ dutyTok ER (barCell (org 0 c)) 0 0 ∗ dutyTok ER (barCell (org 1 c)) 0 1)
    ∗ (bigSep Finset.univ fun i : Cp => waitR c i) ∗ (bigSep Finset.univ fun i : Cp => sendR c i)
    ∗ (bigSep Finset.univ fun k : Fin 4 => bufAny c k))

/-- What it ends with: its buffers, and every cell at zero. -/
def bodyEnd (c : Dev nD) : sProp 𝕄 :=
  iprop((bigSep Finset.univ fun k : Fin 4 => bufAny c k) ∗ semVal (barCell c) 0
    ∗ (bigSep Finset.univ fun i : Cp => iprop(semVal (sCell c i) 0 ∗ semVal (rCell c i) 0)))

/-- The result's blocks in the order they are put, last first. -/
def filled (c : Dev nD) : List Blk :=
  [(1, (org 1)^[3] c, 1), (0, (org 0)^[3] c, 1), (1, (org 1)^[3] c, 0), (0, (org 0)^[3] c, 0),
   (1, (org 1)^[2] c, 1), (0, (org 0)^[2] c, 1), (1, (org 1)^[2] c, 0), (0, (org 0)^[2] c, 0),
   (1, (org 1)^[1] c, 1), (0, (org 0)^[1] c, 1), (1, (org 1)^[1] c, 0), (0, (org 0)^[1] c, 0),
   (1, c, 1), (0, c, 1), (1, c, 0), (0, c, 0)]

/-- Every block is put. -/
theorem filled_all : ∀ (c : Dev nD) (b : Blk), b ∈ filled c := by decide

variable {A : Dev nD → Vec F S2048x1024 .f32} {B : Dev nD → Vec F S1024x2048 .f32} {K : Dev nD × CK → ℕ} {c : Dev nD}

/-- Meeting the neighbours: each is handed the slots its copies land in here. -/
theorem wp_meet {Q : PUnit → sProp 𝕄} :
    iprop(recs A B K ∗ (atPos ER (barCell c) 0 ∅ 0 ∗ cred (tallyAt (barCell c) () 2) ∗ dutyTok ER (barCell (org 0 c)) 0 0 ∗ dutyTok ER (barCell (org 1 c)) 0 1)
        ∗ landing c 0 ∗ landing c 1 ∗ ∃ W, owes (c : Thread nD τ) (O₀ c) W)
      ⊢ iprop(((semVal (barCell c) 0 ∗ landing (nxt c) 0 ∗ landing (prv c) 1 ∗ owesL c order) -∗ Q ⟨⟩) -∗ WP c (meetK c) Q) := by
  have hb : ∀ j ∈ order, ckLv (some none) < rank j := by decide
  unfold owesL
  iintro ⟨#HR, ⟨Hat, Hcr, Ht0, Ht1⟩, HL0, HL1, ⟨%W, HO⟩⟩ Hk
  unfold meetK
  rw [dev1_eq, dev2_eq]
  simp only [semSignalWord, semWaitWord, Prog.lift, Prog.bind_op, Prog.bind_ret, Prog.pure_eq_ret]
  iapply (Rounds.wp_signal 𝒱₀ ER (sched A B) (c : Thread nD τ) none (dst := (org 0 c : Thread nD τ)) (κ := K (org 0 c, none))
      (d := 0) (by rw [duties_bar]; exact Finset.mem_univ _) ((amount_bar A B (org 0 c) 0).trans (by decide)) () (O₁ c) rfl)
    $$ [HO Ht0 HL0]
  · isplitr; · iapply (recs_inv A B K (org 0 c, none)); iexact HR
    isplitl [HO]; · iexact HO
    isplitl [Ht0]; · iexact Ht0
    isplitl [HL0]; · rw [payload_bar, tgt_org]; iexact HL0
    iapply (recs_reached A B K (org 0 c, none)); iexact HR
  iintro HO
  iapply (Rounds.wp_signal 𝒱₀ ER (sched A B) (c : Thread nD τ) none (dst := (org 1 c : Thread nD τ)) (κ := K (org 1 c, none))
      (d := 1) (by rw [duties_bar]; exact Finset.mem_univ _) ((amount_bar A B (org 1 c) 1).trans (by decide)) () (owedL c order) rfl)
    $$ [HO Ht1 HL1]
  · isplitr; · iapply (recs_inv A B K (org 1 c, none)); iexact HR
    isplitl [HO]; · iexact HO
    isplitl [Ht1]; · iexact Ht1
    isplitl [HL1]; · rw [payload_bar, tgt_org]; iexact HL1
    iapply (recs_reached A B K (org 1 c, none)); iexact HR
  iintro HO
  iapply (Rounds.wp_wait_rest_token 𝒱₀ ER (sched A B) (c : Thread nD τ) none (κ := K (c, none))
      (wpE_semWait_eq 𝒱₀ (c : Thread nD τ) none Set.univ) (Set.mem_univ _) () (O := owedL c order) (W := W) (R := 0) (m := 0) (T := ∅)
      (by rw [expect_bar]; decide)) $$ [Hcr HO Hat]
  · isplitr; · iapply (recs_inv A B K (c, none)); iexact HR
    isplitl [Hcr]; · iexact Hcr
    isplitl [HO]; · iexact HO
    isplitr; · iapply (mayWait_cell c none order hb); iapply (recs_lev A B K); iexact HR
    iexact Hat
  iintro ⟨HO, Hat, -, Hp⟩
  ihave HL := (Entails.of_eq (rest_bar A B c)) $$ Hp
  icases HL with ⟨HL0, HL1⟩
  imod (Rounds.cell_close ER (sched A B) (Set.mem_univ (K (c, none))) (fun h => h) (R := 0 + 1) (duties_later A B (barCell c))) $$ [Hat] with Hz
  · isplitr; · iapply (recs_inv A B K (c, none)); iexact HR
    iexact Hat
  rw [wp_ret]; imodintro
  iapply Hk
  isplitl [Hz]; · iexact Hz
  isplitl [HL0]; · iexact HL0
  isplitl [HL1]; · iexact HL1
  iexists _; iexact HO

/-- Opening the reduce phase: both first slots filled, the four first copies started. -/
theorem wp_open (l : List Cp) {Q : PUnit → sProp 𝕄} :
    iprop(recs A B K ∗ (slotO c (rsK 0) 0 0 fullShare (rsC A B 0 0 0 c) ∗ slotO c (rsK 0) 0 1 fullShare (rsC A B 0 1 0 c))
        ∗ (slotO c (rsK 1) 0 0 fullShare (rsC A B 1 0 0 c) ∗ slotO c (rsK 1) 0 1 fullShare (rsC A B 1 1 0 c))
        ∗ send2 c rsK 0 0 ∗ dest2 c rsK 0 0 ∗ send2 c rsK 0 1 ∗ dest2 c rsK 0 1
        ∗ owesL c ((0, 0, 0) :: (1, 0, 0) :: (0, 0, 1) :: (1, 0, 1) :: l))
      ⊢ iprop(((flight2 A B c rsK 0 0 ∗ flight2 A B c rsK 0 1 ∗ owesL c l) -∗ Q ⟨⟩) -∗ WP c (openK c) Q) := by
  unfold send2 dest2 flight2
  iintro ⟨#HR, ⟨Hs00, Hs01⟩, ⟨Hs10, Hs11⟩, ⟨Ht00, Ht10⟩, ⟨Hd00, Hd10⟩, ⟨Ht01, Ht11⟩, ⟨Hd01, Hd11⟩, HO⟩ Hk
  unfold openK
  rw [WP_bind]
  iapply (wp_send (A := A) (B := B) (K := K) (rsK 0, 0, 0) _ (peer_eq c 0) _) $$ [Ht00 Hd00 Hs00 HO]
  · isplitr; · iexact HR
    isplitl [Ht00]; · iexact Ht00
    isplitl [Hd00]; · iexact Hd00
    isplitl [Hs00]; · iexact Hs00
    iexact HO
  iintro ⟨Hf00, HO⟩
  rw [WP_bind]
  iapply (wp_send (A := A) (B := B) (K := K) (rsK 1, 0, 0) _ (peer_eq c 1) _) $$ [Ht10 Hd10 Hs10 HO]
  · isplitr; · iexact HR
    isplitl [Ht10]; · iexact Ht10
    isplitl [Hd10]; · iexact Hd10
    isplitl [Hs10]; · iexact Hs10
    iexact HO
  iintro ⟨Hf10, HO⟩
  rw [WP_bind]
  iapply (wp_send (A := A) (B := B) (K := K) (rsK 0, 0, 1) _ (peer_eq c 0) _) $$ [Ht01 Hd01 Hs01 HO]
  · isplitr; · iexact HR
    isplitl [Ht01]; · iexact Ht01
    isplitl [Hd01]; · iexact Hd01
    isplitl [Hs01]; · iexact Hs01
    iexact HO
  iintro ⟨Hf01, HO⟩
  iapply (wp_send (A := A) (B := B) (K := K) (rsK 1, 0, 1) _ (peer_eq c 1) _) $$ [Ht11 Hd11 Hs11 HO]
  · isplitr; · iexact HR
    isplitl [Ht11]; · iexact Ht11
    isplitl [Hd11]; · iexact Hd11
    isplitl [Hs11]; · iexact Hs11
    iexact HO
  iintro ⟨Hf11, HO⟩
  iapply Hk
  isplitl [Hf00 Hf10]; · isplitl [Hf00] <;> iassumption
  isplitl [Hf01 Hf11]; · isplitl [Hf01] <;> iassumption
  iexact HO

/-- One reduce step. -/
theorem wp_step (s : Fin 2) (l : List Cp)
    (hl₀ : ∀ j ∈ (0, s.succ, 0) :: (1, s.succ, 0) :: (0, s.succ, 1) :: (1, s.succ, 1) :: l, rank (0, s.castSucc, 0) < rank j)
    (hl₁ : ∀ j ∈ (0, s.succ, 1) :: (1, s.succ, 1) :: l, rank (0, s.castSucc, 1) < rank j) {Q : PUnit → sProp 𝕄} :
    iprop(recs A B K ∗ opsR A B c ∗ (wait2 c rsK s.castSucc 0 ∗ flight2 A B c rsK s.castSucc 0 ∗ send2 c rsK s.succ 0 ∗ dest2 c rsK s.succ 0)
        ∗ (wait2 c rsK s.castSucc 1 ∗ flight2 A B c rsK s.castSucc 1 ∗ send2 c rsK s.succ 1 ∗ dest2 c rsK s.succ 1)
        ∗ owesL c ((0, s.succ, 0) :: (1, s.succ, 0) :: (0, s.succ, 1) :: (1, s.succ, 1) :: l))
      ⊢ iprop(((opsR A B c ∗ (over2 c rsK s.castSucc 0 ∗ over2 c rsK s.castSucc 1) ∗ flight2 A B c rsK s.succ 0 ∗ flight2 A B c rsK s.succ 1
            ∗ owesL c l) -∗ Q ⟨⟩) -∗ WP c (stepK c s) Q) := by
  iintro ⟨#HR, Hop, ⟨Hw0, Hf0, Ht0, Hd0⟩, ⟨Hw1, Hf1, Ht1, Hd1⟩, HO⟩ Hk
  unfold stepK
  rw [WP_bind]
  iapply (wp_prod (addOff c s.castSucc 0) (addOff_inb c s.castSucc 0)) $$ Hop
  iintro Hop
  rw [WP_bind]
  iapply (wp_prod (addOff c s.castSucc 1) (addOff_inb c s.castSucc 1)) $$ Hop
  iintro Hop
  rw [WP_bind]
  iapply (wp_reduce (A := A) (B := B) (K := K) s 0 _ hl₀) $$ [Hw0 Hf0 Ht0 Hd0 HO]
  · isplitr; · iexact HR
    isplitl [Hw0]; · iexact Hw0
    isplitl [Hf0]; · iexact Hf0
    isplitl [Ht0]; · iexact Ht0
    isplitl [Hd0]; · iexact Hd0
    iexact HO
  iintro ⟨Hv0, Hf0, HO⟩
  iapply (wp_reduce (A := A) (B := B) (K := K) s 1 _ hl₁) $$ [Hw1 Hf1 Ht1 Hd1 HO]
  · isplitr; · iexact HR
    isplitl [Hw1]; · iexact Hw1
    isplitl [Hf1]; · iexact Hf1
    isplitl [Ht1]; · iexact Ht1
    isplitl [Hd1]; · iexact Hd1
    iexact HO
  iintro ⟨Hv1, Hf1, HO⟩
  iapply Hk
  isplitl [Hop]; · iexact Hop
  isplitl [Hv0 Hv1]; · isplitl [Hv0] <;> iassumption
  isplitl [Hf0]; · iexact Hf0
  isplitl [Hf1] <;> iassumption

/-- The last reduce step. -/
theorem wp_stepLast (l : List Cp) (hl₀ : ∀ j ∈ (2, 0, 0) :: (3, 0, 0) :: (2, 0, 1) :: (3, 0, 1) :: l, rank (0, 2, 0) < rank j)
    (hl₁ : ∀ j ∈ (2, 0, 1) :: (3, 0, 1) :: l, rank (0, 2, 1) < rank j) {Q : PUnit → sProp 𝕄} :
    iprop(recs A B K ∗ opsR A B c ∗ (wait2 c rsK 2 0 ∗ flight2 A B c rsK 2 0 ∗ slot2 c agK 0 0 ∗ send2 c agK 0 0 ∗ dest2 c agK 0 0)
        ∗ (wait2 c rsK 2 1 ∗ flight2 A B c rsK 2 1 ∗ slot2 c agK 0 1 ∗ send2 c agK 0 1 ∗ dest2 c agK 0 1)
        ∗ outR c (outT A B c) [] ∗ owesL c ((2, 0, 0) :: (3, 0, 0) :: (2, 0, 1) :: (3, 0, 1) :: l))
      ⊢ iprop(((opsR A B c ∗ (over2 c rsK 2 0 ∗ over2 c rsK 2 1) ∗ (slot2 c rsK 3 0 ∗ slot2 c rsK 3 1) ∗ flight2 A B c agK 0 0 ∗ flight2 A B c agK 0 1
            ∗ outR c (outT A B c) [(1, c, 1), (0, c, 1), (1, c, 0), (0, c, 0)] ∗ owesL c l) -∗ Q ⟨⟩) -∗ WP c (stepLastK c) Q) := by
  iintro ⟨#HR, Hop, ⟨Hw0, Hf0, Ha0, Ht0, Hd0⟩, ⟨Hw1, Hf1, Ha1, Ht1, Hd1⟩, Hout, HO⟩ Hk
  unfold stepLastK
  rw [WP_bind]
  iapply (wp_prod (addOff c 2 0) (addOff_inb c 2 0)) $$ Hop
  iintro Hop
  rw [WP_bind]
  iapply (wp_prod (addOff c 2 1) (addOff_inb c 2 1)) $$ Hop
  iintro Hop
  rw [WP_bind]
  iapply (wp_last (A := A) (B := B) (K := K) 0 _ _ hl₀) $$ [Hw0 Hf0 Ha0 Ht0 Hd0 Hout HO]
  · isplitr; · iexact HR
    isplitl [Hw0]; · iexact Hw0
    isplitl [Hf0]; · iexact Hf0
    isplitl [Ha0]; · iexact Ha0
    isplitl [Ht0]; · iexact Ht0
    isplitl [Hd0]; · iexact Hd0
    isplitl [Hout]; · iexact Hout
    iexact HO
  iintro ⟨Hv0, Hs0, Hf0, Hout, HO⟩
  iapply (wp_last (A := A) (B := B) (K := K) 1 _ _ hl₁) $$ [Hw1 Hf1 Ha1 Ht1 Hd1 Hout HO]
  · isplitr; · iexact HR
    isplitl [Hw1]; · iexact Hw1
    isplitl [Hf1]; · iexact Hf1
    isplitl [Ha1]; · iexact Ha1
    isplitl [Ht1]; · iexact Ht1
    isplitl [Hd1]; · iexact Hd1
    isplitl [Hout]; · iexact Hout
    iexact HO
  iintro ⟨Hv1, Hs1, Hf1, Hout, HO⟩
  iapply Hk
  isplitl [Hop]; · iexact Hop
  isplitl [Hv0 Hv1]; · isplitl [Hv0] <;> iassumption
  isplitl [Hs0 Hs1]; · isplitl [Hs0] <;> iassumption
  isplitl [Hf0]; · iexact Hf0
  isplitl [Hf1]; · iexact Hf1
  isplitl [Hout] <;> iassumption

/-- What a piece's gather phase uses and what it leaves. -/
def roundRes (c : Dev nD) (p : Fin 2) : sProp 𝕄 :=
  iprop(wait2 c agK 0 p ∗ wait2 c agK 1 p ∗ wait2 c agK 2 p ∗ (send2 c agK 1 p ∗ dest2 c agK 1 p) ∗ (send2 c agK 2 p ∗ dest2 c agK 2 p))
def roundEnd (c : Dev nD) (p : Fin 2) : sProp 𝕄 :=
  iprop((over2 c agK 0 p ∗ over2 c agK 1 p ∗ over2 c agK 2 p) ∗ slot2 c agK 3 p)

/-- The gather phase. -/
theorem wp_round {Q : PUnit → sProp 𝕄} :
    iprop(recs A B K ∗ (roundRes c 0 ∗ flight2 A B c agK 0 0) ∗ (roundRes c 1 ∗ flight2 A B c agK 0 1)
        ∗ outR c (outT A B c) [(1, c, 1), (0, c, 1), (1, c, 0), (0, c, 0)]
        ∗ owesL c [(2, 1, 0), (3, 1, 0), (2, 1, 1), (3, 1, 1), (2, 2, 0), (3, 2, 0), (2, 2, 1), (3, 2, 1)])
      ⊢ iprop(((roundEnd c 0 ∗ roundEnd c 1 ∗ outR c (outT A B c) (filled c) ∗ owesL c []) -∗ Q ⟨⟩) -∗ WP c (roundK c) Q) := by
  unfold roundRes roundEnd filled
  iintro ⟨#HR, ⟨⟨Hw00, Hw10, Hw20, ⟨Ht10, Hd10⟩, ⟨Ht20, Hd20⟩⟩, Hf0⟩, ⟨⟨Hw01, Hw11, Hw21, ⟨Ht11, Hd11⟩, ⟨Ht21, Hd21⟩⟩, Hf1⟩, Hout, HO⟩ Hk
  unfold roundK
  rw [WP_bind]
  iapply (wp_gather (A := A) (B := B) (K := K) 0 0 [(2, 1, 1), (3, 1, 1), (2, 2, 0), (3, 2, 0), (2, 2, 1), (3, 2, 1)] _ (by decide)) $$ [Hw00 Hf0 Ht10 Hd10 Hout HO]
  · isplitr; · iexact HR
    isplitl [Hw00]; · iexact Hw00
    isplitl [Hf0]; · iexact Hf0
    isplitl [Ht10]; · iexact Ht10
    isplitl [Hd10]; · iexact Hd10
    isplitl [Hout]; · iexact Hout
    iexact HO
  iintro ⟨Hv00, Hf0, Hout, HO⟩
  rw [WP_bind]
  iapply (wp_gather (A := A) (B := B) (K := K) 0 1 [(2, 2, 0), (3, 2, 0), (2, 2, 1), (3, 2, 1)] _ (by decide)) $$ [Hw01 Hf1 Ht11 Hd11 Hout HO]
  · isplitr; · iexact HR
    isplitl [Hw01]; · iexact Hw01
    isplitl [Hf1]; · iexact Hf1
    isplitl [Ht11]; · iexact Ht11
    isplitl [Hd11]; · iexact Hd11
    isplitl [Hout]; · iexact Hout
    iexact HO
  iintro ⟨Hv01, Hf1, Hout, HO⟩
  rw [WP_bind]
  iapply (wp_gather (A := A) (B := B) (K := K) 1 0 [(2, 2, 1), (3, 2, 1)] _ (by decide)) $$ [Hw10 Hf0 Ht20 Hd20 Hout HO]
  · isplitr; · iexact HR
    isplitl [Hw10]; · iexact Hw10
    isplitl [Hf0]; · iexact Hf0
    isplitl [Ht20]; · iexact Ht20
    isplitl [Hd20]; · iexact Hd20
    isplitl [Hout]; · iexact Hout
    iexact HO
  iintro ⟨Hv10, Hf0, Hout, HO⟩
  rw [WP_bind]
  iapply (wp_gather (A := A) (B := B) (K := K) 1 1 [] _ (by decide)) $$ [Hw11 Hf1 Ht21 Hd21 Hout HO]
  · isplitr; · iexact HR
    isplitl [Hw11]; · iexact Hw11
    isplitl [Hf1]; · iexact Hf1
    isplitl [Ht21]; · iexact Ht21
    isplitl [Hd21]; · iexact Hd21
    isplitl [Hout]; · iexact Hout
    iexact HO
  iintro ⟨Hv11, Hf1, Hout, HO⟩
  rw [WP_bind]
  iapply (wp_end (A := A) (B := B) (K := K) 0 _) $$ [Hw20 Hf0 Hout HO]
  · isplitr; · iexact HR
    isplitl [Hw20]; · iexact Hw20
    isplitl [Hf0]; · iexact Hf0
    isplitl [Hout]; · iexact Hout
    iexact HO
  iintro ⟨Hv20, Hs0, Hout, HO⟩
  iapply (wp_end (A := A) (B := B) (K := K) 1 _) $$ [Hw21 Hf1 Hout HO]
  · isplitr; · iexact HR
    isplitl [Hw21]; · iexact Hw21
    isplitl [Hf1]; · iexact Hf1
    isplitl [Hout]; · iexact Hout
    iexact HO
  iintro ⟨Hv21, Hs1, Hout, HO⟩
  iapply Hk
  isplitl [Hv00 Hv10 Hv20 Hs0]
  · isplitl [Hv00 Hv10 Hv20]
    · isplitl [Hv00]; · iexact Hv00
      isplitl [Hv10]; · iexact Hv10
      iexact Hv20
    iexact Hs0
  isplitl [Hv01 Hv11 Hv21 Hs1]
  · isplitl [Hv01 Hv11 Hv21]
    · isplitl [Hv01]; · iexact Hv01
      isplitl [Hv11]; · iexact Hv11
      iexact Hv21
    iexact Hs1
  isplitl [Hout]; · iexact Hout
  iexact HO

end Cert.KernelIdeal

end
-- ==== Proof.RunBody.lean ====
/-
  The body from its start to its end on one device.
-/
module

public import proofs.«01_k».proof.Proof.Whole

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

omit [FloatOps F] in
/-- The buffers at the start: the slots the neighbours' copies land in, and the first slots. -/
theorem bufs_split (c : Dev nD) : (bigSep Finset.univ fun k : Fin 4 => bufAny (F := F) c k)
    ⊢ iprop(landing c 0 ∗ landing c 1 ∗ (slotAny c (rsK 0) 0 0 ∗ slotAny c (rsK 0) 0 1) ∗ (slotAny c (rsK 1) 0 0 ∗ slotAny c (rsK 1) 0 1)
        ∗ slot2 c agK 0 0 ∗ slot2 c agK 0 1) := by
  unfold bufAny slot2
  rw [four_eq, eight_first, eight_first, eight_first, eight_first, landing_eq, landing_eq]
  iintro ⟨⟨HL0, H00, H01⟩, ⟨HL1, H10, H11⟩, ⟨HL2, H20, H21⟩, HL3, H30, H31⟩
  isplitl [HL0 HL2]
  · isplitl [HL0]; · iexact HL0
    iexact HL2
  isplitl [HL1 HL3]
  · isplitl [HL1]; · iexact HL1
    iexact HL3
  isplitl [H00 H01]
  · isplitl [H00]; · iexact H00
    iexact H01
  isplitl [H10 H11]
  · isplitl [H10]; · iexact H10
    iexact H11
  isplitl [H20 H30]
  · isplitl [H20]; · iexact H20
    iexact H30
  isplitl [H21]; · iexact H21
  iexact H31

omit [FloatOps F] in
/-- The buffers at the end: the slots copies left from, and the last slots. -/
theorem bufs_join (c : Dev nD) :
    iprop((bigSep Finset.univ fun i : Cp => slotAny (F := F) c i.1 i.2.1.castSucc i.2.2)
        ∗ (slot2 c rsK 3 0 ∗ slot2 c rsK 3 1) ∗ (slot2 c agK 3 0 ∗ slot2 c agK 3 1))
      ⊢ bigSep Finset.univ fun k : Fin 4 => bufAny (F := F) c k := by
  unfold bufAny slot2
  rw [four_eq, eight_last, eight_last, eight_last, eight_last, bigSep_univ_prod, four_eq]
  iintro ⟨⟨HL0, HL1, HL2, HL3⟩, ⟨⟨H00, H10⟩, H01, H11⟩, ⟨H20, H30⟩, H21, H31⟩
  isplitl [HL0 H00 H01]
  · isplitl [HL0]; · iexact HL0
    isplitl [H00]; · iexact H00
    iexact H01
  isplitl [HL1 H10 H11]
  · isplitl [HL1]; · iexact HL1
    isplitl [H10]; · iexact H10
    iexact H11
  isplitl [HL2 H20 H21]
  · isplitl [HL2]; · iexact HL2
    isplitl [H20]; · iexact H20
    iexact H21
  isplitl [HL3]; · iexact HL3
  isplitl [H30]; · iexact H30
  iexact H31

omit [FloatOps F] in
/-- Every copy done with gives its source slot and its two cells. -/
theorem overs_join (c : Dev nD) :
    iprop(((over2 (F := F) c rsK 0 0 ∗ over2 c rsK 0 1) ∗ (over2 c rsK 1 0 ∗ over2 c rsK 1 1) ∗ (over2 c rsK 2 0 ∗ over2 c rsK 2 1))
        ∗ (over2 c agK 0 0 ∗ over2 c agK 1 0 ∗ over2 c agK 2 0) ∗ (over2 c agK 0 1 ∗ over2 c agK 1 1 ∗ over2 c agK 2 1))
      ⊢ iprop((bigSep Finset.univ fun i : Cp => slotAny (F := F) c i.1 i.2.1.castSucc i.2.2)
          ∗ bigSep Finset.univ fun i : Cp => iprop(semVal (sCell c i) 0 ∗ semVal (rCell c i) 0)) := by
  rw [← bigSep_sep']
  rw [show (bigSep Finset.univ fun i : Cp => iprop(slotAny (F := F) c i.1 i.2.1.castSucc i.2.2 ∗ semVal (sCell c i) 0 ∗ semVal (rCell c i) 0))
    = bigSep Finset.univ fun i : Cp => over (F := F) c i from rfl, copies_eq, six_eq, six_eq]
  unfold over2
  iintro ⟨⟨⟨H00, H01⟩, ⟨H10, H11⟩, H20, H21⟩, ⟨G00, G10, G20⟩, G01, G11, G21⟩
  isplitl [H00 H01 H10 H11 H20 H21]
  · isplitl [H00]; · iexact H00
    isplitl [H01]; · iexact H01
    isplitl [H10]; · iexact H10
    isplitl [H11]; · iexact H11
    isplitl [H20]; · iexact H20
    iexact H21
  · isplitl [G00]; · iexact G00
    isplitl [G01]; · iexact G01
    isplitl [G10]; · iexact G10
    isplitl [G11]; · iexact G11
    isplitl [G20]; · iexact G20
    iexact G21

omit [FloatOps F] in
/-- The waiting resources of all copies, by phase, step and piece; -/
theorem hwait2 (c : Dev nD) : (bigSep Finset.univ fun i : Cp => waitR (F := F) c i)
    ⊢ iprop((bigSep Finset.univ fun sp : Fin 3 × Fin 2 => wait2 (F := F) c rsK sp.1 sp.2) ∗ bigSep Finset.univ fun sp : Fin 3 × Fin 2 => wait2 c agK sp.1 sp.2) :=
  Entails.of_eq (copies_eq (waitR c))

omit [FloatOps F] in
/-- and the starting ones. -/
theorem hsend2 (c : Dev nD) : (bigSep Finset.univ fun i : Cp => sendR (F := F) c i)
    ⊢ iprop((bigSep Finset.univ fun sp : Fin 3 × Fin 2 => send2 (F := F) c rsK sp.1 sp.2) ∗ bigSep Finset.univ fun sp : Fin 3 × Fin 2 => send2 c agK sp.1 sp.2) :=
  Entails.of_eq (copies_eq (sendR c))

variable {A : Dev nD → Vec F S2048x1024 .f32} {B : Dev nD → Vec F S1024x2048 .f32} {K : Dev nD × CK → ℕ} {c : Dev nD}

/-- The body: from its resources to every block of the result put. -/
theorem wp_body {Q : PUnit → sProp 𝕄} :
    iprop(recs A B K ∗ bodyStart c ∗ opsR A B c ∗ outR c (outT A B c) [] ∗ ∃ W, owes (c : Thread nD τ) (O₀ c) W)
      ⊢ iprop(((bodyEnd c ∗ opsR A B c ∗ outR c (outT A B c) (filled c) ∗ owesL c []) -∗ Q ⟨⟩) -∗ WP c (bodyK c) Q) := by
  unfold bodyStart
  iintro ⟨#HR, ⟨Hbar, Hws, Hts, Hbufs⟩, Hop, Hout, HO⟩ Hk
  ihave Hb := (bufs_split c) $$ Hbufs
  icases Hb with ⟨HL0, HL1, Hs0, Hs1, Ha0, Ha1⟩
  ihave Hws2 := (hwait2 (F := F) c) $$ Hws
  icases Hws2 with ⟨Hwr, Hwa⟩
  ihave Hwr2 := (Entails.of_eq (six_eq fun sp => wait2 (F := F) c rsK sp.1 sp.2)) $$ Hwr
  icases Hwr2 with ⟨Hw00, Hw01, Hw10, Hw11, Hw20, Hw21⟩
  ihave Hwa2 := (Entails.of_eq (six_eq fun sp => wait2 (F := F) c agK sp.1 sp.2)) $$ Hwa
  icases Hwa2 with ⟨Hg00, Hg01, Hg10, Hg11, Hg20, Hg21⟩
  ihave Hts2 := (hsend2 (F := F) c) $$ Hts
  icases Hts2 with ⟨Htr, Hta⟩
  ihave Htr2 := (Entails.of_eq (six_eq fun sp => send2 (F := F) c rsK sp.1 sp.2)) $$ Htr
  icases Htr2 with ⟨Ht00, Ht01, Ht10, Ht11, Ht20, Ht21⟩
  ihave Hta2 := (Entails.of_eq (six_eq fun sp => send2 (F := F) c agK sp.1 sp.2)) $$ Hta
  icases Hta2 with ⟨Hu00, Hu01, Hu10, Hu11, Hu20, Hu21⟩
  unfold bodyK
  rw [WP_bind]
  iapply (wp_meet (A := A) (B := B) (K := K)) $$ [Hbar HL0 HL1 HO]
  · isplitr; · iexact HR
    isplitl [Hbar]; · iexact Hbar
    isplitl [HL0]; · iexact HL0
    isplitl [HL1]; · iexact HL1
    iexact HO
  iintro ⟨Hz, HL0, HL1, HO⟩
  ihave HD := (landings c) $$ [HL0 HL1]
  · isplitl [HL0] <;> iassumption
  icases HD with ⟨HDr, HDa⟩
  ihave HDr2 := (Entails.of_eq (six_eq fun sp => dest2 (F := F) c rsK sp.1 sp.2)) $$ HDr
  icases HDr2 with ⟨Hd00, Hd01, Hd10, Hd11, Hd20, Hd21⟩
  ihave HDa2 := (Entails.of_eq (six_eq fun sp => dest2 (F := F) c agK sp.1 sp.2)) $$ HDa
  icases HDa2 with ⟨He00, He01, He10, He11, He20, He21⟩
  rw [WP_bind]
  iapply (wp_fill (A := A) (B := B) 0) $$ [Hop Hs0]
  · isplitl [Hop] <;> iassumption
  iintro ⟨Hop, Hs0⟩
  rw [WP_bind]
  iapply (wp_fill (A := A) (B := B) 1) $$ [Hop Hs1]
  · isplitl [Hop] <;> iassumption
  iintro ⟨Hop, Hs1⟩
  unfold order
  rw [WP_bind]
  iapply (wp_open (A := A) (B := B) (K := K) _) $$ [Hs0 Hs1 Ht00 Hd00 Ht01 Hd01 HO]
  · isplitr; · iexact HR
    isplitl [Hs0]; · iexact Hs0
    isplitl [Hs1]; · iexact Hs1
    isplitl [Ht00]; · iexact Ht00
    isplitl [Hd00]; · iexact Hd00
    isplitl [Ht01]; · iexact Ht01
    isplitl [Hd01]; · iexact Hd01
    iexact HO
  iintro ⟨Hf0, Hf1, HO⟩
  rw [WP_bind]
  iapply (wp_step (A := A) (B := B) (K := K) 0 (order.drop 8) (by decide) (by decide)) $$ [Hop Hw00 Hf0 Ht10 Hd10 Hw01 Hf1 Ht11 Hd11 HO]
  · isplitr; · iexact HR
    isplitl [Hop]; · iexact Hop
    isplitl [Hw00 Hf0 Ht10 Hd10]
    · isplitl [Hw00]; · iexact Hw00
      isplitl [Hf0]; · iexact Hf0
      isplitl [Ht10]; · iexact Ht10
      iexact Hd10
    isplitl [Hw01 Hf1 Ht11 Hd11]
    · isplitl [Hw01]; · iexact Hw01
      isplitl [Hf1]; · iexact Hf1
      isplitl [Ht11]; · iexact Ht11
      iexact Hd11
    iexact HO
  iintro ⟨Hop, Hv0, Hf0, Hf1, HO⟩
  rw [WP_bind]
  iapply (wp_step (A := A) (B := B) (K := K) 1 (order.drop 12) (by decide) (by decide)) $$ [Hop Hw10 Hf0 Ht20 Hd20 Hw11 Hf1 Ht21 Hd21 HO]
  · isplitr; · iexact HR
    isplitl [Hop]; · iexact Hop
    isplitl [Hw10 Hf0 Ht20 Hd20]
    · isplitl [Hw10]; · iexact Hw10
      isplitl [Hf0]; · iexact Hf0
      isplitl [Ht20]; · iexact Ht20
      iexact Hd20
    isplitl [Hw11 Hf1 Ht21 Hd21]
    · isplitl [Hw11]; · iexact Hw11
      isplitl [Hf1]; · iexact Hf1
      isplitl [Ht21]; · iexact Ht21
      iexact Hd21
    iexact HO
  iintro ⟨Hop, Hv1, Hf0, Hf1, HO⟩
  rw [WP_bind]
  iapply (wp_stepLast (A := A) (B := B) (K := K) (order.drop 16) (by decide) (by decide))
    $$ [Hop Hw20 Hf0 Ha0 Hu00 He00 Hw21 Hf1 Ha1 Hu01 He01 Hout HO]
  · isplitr; · iexact HR
    isplitl [Hop]; · iexact Hop
    isplitl [Hw20 Hf0 Ha0 Hu00 He00]
    · isplitl [Hw20]; · iexact Hw20
      isplitl [Hf0]; · iexact Hf0
      isplitl [Ha0]; · iexact Ha0
      isplitl [Hu00]; · iexact Hu00
      iexact He00
    isplitl [Hw21 Hf1 Ha1 Hu01 He01]
    · isplitl [Hw21]; · iexact Hw21
      isplitl [Hf1]; · iexact Hf1
      isplitl [Ha1]; · iexact Ha1
      isplitl [Hu01]; · iexact Hu01
      iexact He01
    isplitl [Hout]; · iexact Hout
    iexact HO
  iintro ⟨Hop, Hv2, Hs3, Hf0, Hf1, Hout, HO⟩
  iapply (wp_round (A := A) (B := B) (K := K))
    $$ [Hg00 Hg10 Hg20 Hu10 He10 Hu20 He20 Hf0 Hg01 Hg11 Hg21 Hu11 He11 Hu21 He21 Hf1 Hout HO]
  · isplitr; · iexact HR
    unfold roundRes
    isplitl [Hg00 Hg10 Hg20 Hu10 He10 Hu20 He20 Hf0]
    · isplitr [Hf0]; rotate_left
      · iexact Hf0
      isplitl [Hg00]; · iexact Hg00
      isplitl [Hg10]; · iexact Hg10
      isplitl [Hg20]; · iexact Hg20
      isplitl [Hu10 He10]
      · isplitl [Hu10]; · iexact Hu10
        iexact He10
      isplitl [Hu20]; · iexact Hu20
      iexact He20
    isplitl [Hg01 Hg11 Hg21 Hu11 He11 Hu21 He21 Hf1]
    · isplitr [Hf1]; rotate_left
      · iexact Hf1
      isplitl [Hg01]; · iexact Hg01
      isplitl [Hg11]; · iexact Hg11
      isplitl [Hg21]; · iexact Hg21
      isplitl [Hu11 He11]
      · isplitl [Hu11]; · iexact Hu11
        iexact He11
      isplitl [Hu21]; · iexact Hu21
      iexact He21
    isplitl [Hout]; · iexact Hout
    iexact HO
  iintro ⟨Hr0, Hr1, Hout, HO⟩
  iapply Hk
  unfold roundEnd bodyEnd
  icases Hr0 with ⟨Hr0, Ha0⟩
  icases Hr1 with ⟨Hr1, Ha1⟩
  ihave Hov := (overs_join c) $$ [Hv0 Hv1 Hv2 Hr0 Hr1]
  · isplitl [Hv0 Hv1 Hv2]
    · isplitl [Hv0]; · iexact Hv0
      isplitl [Hv1]; · iexact Hv1
      iexact Hv2
    isplitl [Hr0] <;> iassumption
  icases Hov with ⟨Hsl, Hzs⟩
  isplitl [Hsl Hs3 Ha0 Ha1 Hz Hzs]
  · isplitl [Hsl Hs3 Ha0 Ha1]
    · iapply (bufs_join c)
      isplitl [Hsl]; · iexact Hsl
      isplitl [Hs3]; · iexact Hs3
      isplitl [Ha0] <;> iassumption
    isplitl [Hz] <;> iassumption
  isplitl [Hop]; · iexact Hop
  isplitl [Hout] <;> iassumption

end Cert.KernelIdeal

end
-- ==== Proof.Data.lean ====
/-
  The kernel as the pipeline runs it: the blocks a device stages, the result it leaves, its four buffers,
  and the body obligation.
-/
module

public import proofs.«01_k».proof.Proof.RunBody
public import proofs.«01_k».proof.Proof.Gen.KernelIdeal.Frame

@[expose] public section

set_option maxRecDepth 8000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## The result by its blocks -/

/-- The block an element of the result lies in, -/
def blkOf (i : S2048x2048.Idx) : Blk :=
  have h : (i 0).val < 2048 := (i 0).isLt
  (⟨(i 0).val / 1024, by omega⟩, (⟨(i 0).val % 1024 / 256, by omega⟩ : Fin 4), ⟨(i 0).val % 256 / 128, by omega⟩)

/-- and where it lies there. -/
def inBlk (i : S2048x2048.Idx) : S128x2048.Idx := fun a => match a with
  | ⟨0, _⟩ => ⟨(i 0).val % 128, Nat.mod_lt _ (by decide)⟩
  | ⟨1, _⟩ => i 1

theorem emb_blk (i : S2048x2048.Idx) : (blkR (blkOf i)).emb (inBlk i) = i := by
  have h : (i 0).val < 2048 := (i 0).isLt
  funext a
  apply Fin.ext
  rw [Rect.emb_apply]
  match a with
  | ⟨0, _⟩ =>
    show 1024 * ((i 0).val / 1024) + 256 * ((i 0).val % 1024 / 256) + 128 * ((i 0).val % 256 / 128) + 1 * ((i 0).val % 128) = (i 0).val
    omega
  | ⟨1, _⟩ => show 0 + 1 * (i 1).val = (i 1).val; omega

/-- The array whose blocks are `T`. -/
def whole (T : Blk → FVec F S128x2048 .f32) : Vec F S2048x2048 .f32 := fun i => T (blkOf i) (inBlk i)

omit [FloatOps F] in
/-- The result with every block filled is that array. -/
theorem outR_whole (c : Dev nD) (T : Blk → FVec F S128x2048 .f32) (l : List Blk) (hl : ∀ b, b ∈ l) :
    (outR c T l : sProp 𝕄) ⊢ (((c : Thread nD τ).loc cc0_stg2_0) ↦{fullShare} whole T) := by
  unfold outR
  iintro ⟨%f, %hf, H⟩
  have e : f = whole T := funext fun i => by
    have h := hf (blkOf i) (hl _) (inBlk i)
    rw [emb_blk] at h
    exact h
  subst e
  iexact H

/-! ## The four buffers -/

/-- A buffer's pieces cover it. -/
theorem slots_cover : (Finset.univ.biUnion fun sp : Fin 4 × Fin 2 => (slotR sp.1 sp.2).set) = Finset.univ := by
  refine Finset.eq_univ_of_forall fun i => ?_
  have h0 : (i 0).val < 4 := (i 0).isLt
  have h1 : (i 1).val < 256 := (i 1).isLt
  have h2 : (i 2).val < 2048 := (i 2).isLt
  refine Finset.mem_biUnion.mpr ⟨(⟨(i 0).val, h0⟩, ⟨(i 1).val / 128, by omega⟩), Finset.mem_univ _, Rect.mem_set_unit.mpr fun a => ?_⟩
  match a with
  | ⟨0, _⟩ => exact ⟨Nat.le_refl _, by show (i 0).val < (i 0).val + 1; omega⟩
  | ⟨1, _⟩ => exact ⟨by show 128 * ((i 1).val / 128) ≤ (i 1).val; omega, by show (i 1).val < 128 * ((i 1).val / 128) + 128; omega⟩
  | ⟨2, _⟩ => exact ⟨Nat.zero_le _, by show (i 2).val < 0 + 2048; omega⟩

section Buffers

variable (c : Dev nD) (k : Fin 4)

omit [FloatOps F] in
/-- A buffer owned whole is its pieces, -/
theorem buf_split (X : Vec F S4x256x2048 .bf16) : (ownsTc c (buf k) fullShare X : sProp 𝕄) ⊢ bufAny c k :=
  (ownsSat_intro (c : Thread nD τ) (buf k) fullShare (Φ := fun X => ∀ sp : Fin 4 × Fin 2, (fun _ : S1x128x2048.Idx → Elt F .bf16 => True) fun j => X ((slotR sp.1 sp.2).emb j))
      fun _ => trivial).trans
    (ownsSat_rects (c : Thread nD τ) (buf k) fullShare (fun sp : Fin 4 × Fin 2 => slotR sp.1 sp.2) (fun _ _ => rfl)
      (fun t t' h => slots_apart _ _ _ _ h) slots_cover (fun _ _ => True))

/-- and the pieces are the buffer. -/
theorem buf_join : (bufAny c k : sProp 𝕄) ⊢ iprop(∃ X, ownsTc c (buf k) fullShare X) := by
  refine (ownsSat_of_rects (c : Thread nD τ) (buf k) fullShare (fun sp : Fin 4 × Fin 2 => slotR sp.1 sp.2) (fun _ _ => rfl)
      (fun t t' h => slots_apart _ _ _ _ h) slots_cover (fun _ _ => True)).trans ?_
  refine (ownsSat_elim (c : Thread nD τ) (buf k) fullShare _).trans ?_
  iintro ⟨%X, -, H⟩
  iexists X; iexact H

omit [FloatOps F] in
theorem bufs_of_rest : (Pipeline.scopedRest cfg0.spec c : sProp 𝕄) ⊢ bigSep Finset.univ fun k : Fin 4 => bufAny c k := by
  rw [four_eq]
  refine (Entails.of_eq (scopedRest0_eq c)).trans ?_
  iintro ⟨⟨%f0, H0⟩, ⟨%f1, H1⟩, ⟨%f2, H2⟩, ⟨%f3, H3⟩⟩
  isplitl [H0]
  · iapply (buf_split c 0 f0); iapply (Entails.of_eq (owns_whole (c : Thread nD τ) cc0_scratch0 fullShare f0).symm); iexact H0
  isplitl [H1]
  · iapply (buf_split c 1 f1); iapply (Entails.of_eq (owns_whole (c : Thread nD τ) cc0_scratch1 fullShare f1).symm); iexact H1
  isplitl [H2]
  · iapply (buf_split c 2 f2); iapply (Entails.of_eq (owns_whole (c : Thread nD τ) cc0_scratch2 fullShare f2).symm); iexact H2
  · iapply (buf_split c 3 f3); iapply (Entails.of_eq (owns_whole (c : Thread nD τ) cc0_scratch3 fullShare f3).symm); iexact H3

theorem rest_of_bufs : (bigSep Finset.univ fun k : Fin 4 => bufAny (F := F) c k) ⊢ (Pipeline.scopedRest cfg0.spec c : sProp 𝕄) := by
  rw [four_eq]
  refine BIBase.Entails.trans ?_ (Entails.of_eq (scopedRest0_eq c).symm)
  iintro ⟨H0, H1, H2, H3⟩
  ihave H0 := (buf_join c 0) $$ H0
  ihave H1 := (buf_join c 1) $$ H1
  ihave H2 := (buf_join c 2) $$ H2
  ihave H3 := (buf_join c 3) $$ H3
  icases H0 with ⟨%f0, H0⟩
  icases H1 with ⟨%f1, H1⟩
  icases H2 with ⟨%f2, H2⟩
  icases H3 with ⟨%f3, H3⟩
  isplitl [H0]
  · iexists f0; iapply (Entails.of_eq (owns_whole (c : Thread nD τ) cc0_scratch0 fullShare f0)); iexact H0
  isplitl [H1]
  · iexists f1; iapply (Entails.of_eq (owns_whole (c : Thread nD τ) cc0_scratch1 fullShare f1)); iexact H1
  isplitl [H2]
  · iexists f2; iapply (Entails.of_eq (owns_whole (c : Thread nD τ) cc0_scratch2 fullShare f2)); iexact H2
  · iexists f3; iapply (Entails.of_eq (owns_whole (c : Thread nD τ) cc0_scratch3 fullShare f3)); iexact H3

end Buffers

/-! ## The pipeline's proof data -/

variable (m : (ℓ : Loc nD τ sig) → Buf (Elt F) ℓ) (ρ : Dev nD → PrngReg)

/-- A device's block of the left factor, -/
def stA (c : Dev nD) : Vec F S2048x1024 .f32 := iblk m c 0 t0_0
/-- and of the right. -/
def stB (c : Dev nD) : Vec F S1024x2048 .f32 := iblk m c 1 t0_0
/-- The result on a device. -/
def outC (c : Dev nD) : Vec F S2048x2048 .f32 := whole (outT (stA m) (stB m) c)

/-- What a device's cells give its body, besides the credits and the buffers: the records, its cells' positions, and
    the tokens of the duties it pays. -/
def ghost (K : Dev nD × CK → ℕ) (c : Dev nD) : sProp 𝕄 :=
  iprop(((bigSep Finset.univ fun ck : Dev nD × CK => cellInv ER (sched (stA m) (stB m)) (K ck) (kcell ck))
      ∗ bigSep Finset.univ fun ck : Dev nD × CK => reached ER (kcell ck) 0)
    ∗ (bigSep Finset.univ fun x : CK => atPos ER (kcell (c, x)) 0 ∅ 0)
    ∗ (dutyTok ER (barCell (org 0 c)) 0 0 ∗ dutyTok ER (barCell (org 1 c)) 0 1) ∗ bigSep Finset.univ fun i : Cp => sendR c i)

/-- The credits of a device's barrier and receive cells. -/
def credits (c : Dev nD) : sProp 𝕄 :=
  iprop(cred (tallyAt (barCell c) () 2) ∗ bigSep Finset.univ fun i : Cp => cred (tallyAt (rCell c i) () N))

/-- What a device starts from. -/
def start (c : Dev nD) : sProp 𝕄 := iprop((∃ K, ghost m K c) ∗ credits c ∗ levAts L lv)

/-- Before the one point: that and the buffers. -/
def Φ₀ (c : Dev nD) : sProp 𝕄 := iprop(start m c ∗ bigSep Finset.univ fun k : Fin 4 => bufAny c k)

def dats (_ : Fin 1) (c : Dev nD) : Dat τ (Elt F) Unit ℕ UU ℕ cfg0 c where
  A w := m ((cfg0.win w).arr.view.loc (c : Thread nD τ))
  after w _ := match w with
    | ⟨0, _⟩ => stA m c
    | ⟨1, _⟩ => stB m c
    | ⟨2, _⟩ => outC m c
  Φ t := match t with
    | ⟨0, _⟩ => Φ₀ m c
    | ⟨_ + 1, _⟩ => bodyEnd c
  q _ := fullShare
  owed t := match t with
    | ⟨0, _⟩ => O₀ c
    | ⟨_ + 1, _⟩ => 0

omit [FloatOps F] in
/-- A resource of every copy's two sides, side by side. -/
theorem sides_eq (Φ : Bool × Cp → sProp 𝕄) : bigSep Finset.univ Φ
    = iprop((bigSep Finset.univ fun i : Cp => Φ (false, i)) ∗ (bigSep Finset.univ fun i : Cp => Φ (true, i))) := by
  rw [bigSep_univ_prod, bigSep_univ_eq_bigSepL [false, true] (by decide) (by decide)]
  rfl

omit [FloatOps F] in
/-- The cells are the barrier's and the copies'. -/
theorem cells_eq (Φ : CK → sProp 𝕄) : bigSep Finset.univ Φ = iprop(Φ none ∗ bigSep Finset.univ fun x : Bool × Cp => Φ (some x)) := by
  rw [bigSep_univ_equiv (Equiv.optionEquivSumPUnit.{0, 0} (Bool × Cp)).symm Φ, bigSep_univ_sum, bigSep_univ_of_subsingleton PUnit.unit]
  exact BI.equiv_iff.mp ⟨sep_comm, sep_comm⟩

/-- The body's resources out of the start's. -/
theorem body_start (K : Dev nD × CK → ℕ) (c : Dev nD) :
    iprop(ghost m K c ∗ credits c ∗ levAts L lv ∗ bigSep Finset.univ fun k : Fin 4 => bufAny c k)
      ⊢ iprop(recs (stA m) (stB m) K ∗ bodyStart c) := by
  unfold ghost credits recs bodyStart waitR
  rw [cells_eq, sides_eq, bigSep_sep', bigSep_sep']
  iintro ⟨⟨⟨HI, HR⟩, ⟨HaB, HaS, HaV⟩, ⟨Ht0, Ht1⟩, Hs⟩, ⟨HcB, HcV⟩, HL, Hb⟩
  isplitl [HI HR HL]
  · isplitl [HI]; · iexact HI
    isplitl [HR] <;> iassumption
  isplitl [HaB HcB Ht0 Ht1]
  · isplitl [HaB]; · iexact HaB
    isplitl [HcB]; · iexact HcB
    isplitl [Ht0] <;> iassumption
  isplitl [HaS HaV HcV]
  · isplitl [HaS]; · iexact HaS
    isplitl [HaV] <;> iassumption
  isplitl [Hs] <;> iassumption

/-- The library's body obligation. -/
theorem body_obligation (c : Dev nD) : BodyObligation (dats (F := F) m 0 c) (defs₀ (F := F)) 𝒱₀ () Set.univ := fun t => by
  rw [fin_N0 t, bigSep_W0, bigSep_W0]
  simp only [owns_whole]
  show iprop(Φ₀ m c ∗ (dats m 0 c).owesAt () t0_0.castSucc
      ∗ (∃ d, ((c : Thread nD τ).loc cc0_stg0_0) ↦{fullShare} (dats m 0 c).before 0 t0_0 d)
      ∗ (∃ d, ((c : Thread nD τ).loc cc0_stg1_0) ↦{fullShare} (dats m 0 c).before 1 t0_0 d)
      ∗ (∃ d, ((c : Thread nD τ).loc cc0_stg2_0) ↦{fullShare} (dats m 0 c).before 2 t0_0 d))
    ⊢ WP c (bodyAt0 t0_0) fun _ => iprop(bodyEnd c ∗ (dats m 0 c).owesAt () t0_0.succ
      ∗ (((c : Thread nD τ).loc cc0_stg0_0) ↦{fullShare} stA m c)
      ∗ (((c : Thread nD τ).loc cc0_stg1_0) ↦{fullShare} stB m c)
      ∗ (((c : Thread nD τ).loc cc0_stg2_0) ↦{fullShare} outC m c))
  have hA (d) : (dats m 0 c).before 0 t0_0 d = stA m c := by unfold Dat.before; rw [if_pos (fetch0_0 t0_0)]; rfl
  have hB (d) : (dats m 0 c).before 1 t0_0 d = stB m c := by unfold Dat.before; rw [if_pos (fetch0_1 t0_0)]; rfl
  unfold Φ₀ start Dat.owesAt Pipeline.owesWithin
  rw [bodyAt_eq]
  simp only [Prog.lift, Prog.bind_op, Prog.bind_ret, wp_deviceId]
  iintro ⟨⟨⟨⟨%K, Hg⟩, Hc, HL⟩, Hb⟩, ⟨%W, %hW, HO⟩, ⟨%d0, H0⟩, ⟨%d1, H1⟩, ⟨%d2, H2⟩⟩
  ihave Hs := (body_start m K c) $$ [Hg Hc HL Hb]
  · isplitl [Hg]; · iexact Hg
    isplitl [Hc]; · iexact Hc
    isplitl [HL] <;> iassumption
  icases Hs with ⟨HR, Hs⟩
  ihave H0 := (Entails.of_eq (congrArg (fun X => (((c : Thread nD τ).loc cc0_stg0_0) ↦{fullShare} X : sProp 𝕄)) (hA d0))) $$ H0
  ihave H1 := (Entails.of_eq (congrArg (fun X => (((c : Thread nD τ).loc cc0_stg1_0) ↦{fullShare} X : sProp 𝕄)) (hB d1))) $$ H1
  iapply (wp_body (A := stA m) (B := stB m) (K := K) (c := c)) $$ [HR Hs H0 H1 H2 HO]
  · isplitl [HR]; · iexact HR
    isplitl [Hs]; · iexact Hs
    isplitl [H0 H1]
    · unfold opsR; isplitl [H0] <;> iassumption
    isplitl [H2]
    · unfold outR; iexists _
      isplitr; rotate_left
      · iexact H2
      · ipureintro; exact fun b hb => absurd hb List.not_mem_nil
    iexists W; iexact HO
  iintro ⟨He, Hop, Hout, HO⟩
  unfold opsR owesL
  icases Hop with ⟨H0, H1⟩
  icases HO with ⟨%W', HO⟩
  ihave Hout := (outR_whole c _ _ (filled_all c)) $$ Hout
  isplitl [He]; · iexact He
  isplitl [HO]
  · iexists W'; isplitr; · ipureintro; exact fun _ _ => Or.inl trivial
    iexact HO
  isplitl [H0]; · iexact H0
  isplitl [H1]; · iexact H1
  iexact Hout

end Cert.KernelIdeal

end
-- ==== Proof.Launch.lean ====
/-
  The launch: the ghost state dealt out to the devices, the credit they start with, and the whole run.
-/
module

public import proofs.«01_k».proof.Proof.Data
public import Idealize.ShloMosaic.Lib.Quiescent
public import Idealize.ShloMosaic.Lib.Pipeline.CollectiveSegs

@[expose] public section

set_option maxRecDepth 8000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

/-- The kernel's own semaphores: every copy's two. -/
abbrev osem (x : Bool × Cp) : SemLoc sig := .dma (xsem x)

theorem ownSemFacts : Pipeline.OwnSemFacts cfg0.spec osem where
  isScoped := by decide
  inj x y h := Option.some.inj (csem_injective (a₁ := some x) (a₂ := some y) h)
  disj := by decide

def allCells : Finset (GSem nD τ sig) := Finset.univ.map ⟨kcell, kcell_injective⟩

/-- A device's tokens as minted: its barrier's two duties, each of its copies' cells' one. -/
abbrev tokOf (x : Dev nD × (Fin 2 ⊕ Bool × Cp)) : GSem nD τ sig × ℕ × Fin 2 := match x.2 with
  | .inl δ => (barCell x.1, 0, δ)
  | .inr y => (kcell (x.1, some y), 0, 0)

theorem tokOf_injective : Function.Injective tokOf := by
  rintro ⟨c, x⟩ ⟨c', x'⟩ h
  have hc := congrArg (fun y : GSem nD τ sig × ℕ × Fin 2 => y.1) h
  have hd := congrArg (fun y : GSem nD τ sig × ℕ × Fin 2 => y.2.2) h
  rcases x with δ | y <;> rcases x' with δ' | y'
  · have e := kcell_injective (a₁ := (c, none)) (a₂ := (c', none)) hc
    have e1 : c = c' := congrArg Prod.fst e
    have e' : δ = δ' := hd
    rw [e1, e']
  · exact absurd (congrArg Prod.snd (kcell_injective (a₁ := (c, none)) (a₂ := (c', some y')) hc)) (by simp)
  · exact absurd (congrArg Prod.snd (kcell_injective (a₁ := (c, some y)) (a₂ := (c', none)) hc)) (by simp)
  · have e := kcell_injective (a₁ := (c, some y)) (a₂ := (c', some y')) hc
    have e1 : c = c' := congrArg Prod.fst e
    have e2 : y = y' := Option.some.inj (congrArg Prod.snd e)
    rw [e1, e2]

def allToks : Finset (GSem nD τ sig × ℕ × Fin 2) := Finset.univ.map ⟨tokOf, tokOf_injective⟩

def u₀ : UU :=
  (initOf (Pipeline.cells cfgs cellOf_inj) (Pipeline.launchToks cfgs cellOf_inj), initOf allCells allToks)

/-- The tokens of a device's own cells. -/
def toks (c : Dev nD) : sProp 𝕄 :=
  iprop((dutyTok ER (barCell c) 0 0 ∗ dutyTok ER (barCell c) 0 1) ∗ bigSep Finset.univ fun x : Bool × Cp => dutyTok ER (kcell (c, some x)) 0 0)

/-- The tokens of the duties it pays. -/
def payToks (c : Dev nD) : sProp 𝕄 :=
  iprop((dutyTok ER (barCell (org 0 c)) 0 0 ∗ dutyTok ER (barCell (org 1 c)) 0 1) ∗ bigSep Finset.univ fun i : Cp => sendR c i)

/-- The positions and marks of a device's cells. -/
def marks (c : Dev nD) : sProp 𝕄 :=
  bigSep Finset.univ fun x : CK => iprop(atPos ER (kcell (c, x)) 0 ∅ 0 ∗ reached ER (kcell (c, x)) 0)

/-- What the launch deals a device. -/
def G (c : Dev nD) : sProp 𝕄 :=
  iprop((bigSep Finset.univ fun x : CK => roundState ER (sched (stA m) (stB m)) (kcell (c, x)) 0) ∗ marks c ∗ toks c)

/-- What the devices make of it together. -/
def G' (c : Dev nD) : sProp 𝕄 := iprop(∃ K, ghost m K c)

theorem over_cells (Φ : GSem nD τ sig → sProp 𝕄) :
    bigSep allCells Φ = bigSep Finset.univ fun c : Dev nD => bigSep Finset.univ fun x : CK => Φ (kcell (c, x)) := by
  unfold allCells; rw [bigSep_map, bigSep_univ_prod]; rfl

theorem over_toks : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [bigSep_univ_sum, bigSep_univ_eq_bigSepL [0, 1] (by decide) (by decide)]
  rfl

/-- The protocol's ghost state, dealt out. -/
theorem fund_all : BI.own (ER (initOf allCells allToks)) ⊢ (|==> bigSep Finset.univ (G m) : sProp 𝕄) := by
  iintro HX
  imod (Rounds.fund ER (sched (stA m) (stB m)) allCells allToks) $$ HX with ⟨Hst, Hr, Hat, Htok⟩
  imodintro
  ihave Hst' := (Entails.of_eq (over_cells fun g => roundState ER (sched (stA m) (stB m)) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G marks; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = bigSep Finset.univ fun x : Bool × Cp => semVal (kcell (c, some x)) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device opens its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched (stA m) (stB m)) κ (kcell (c, x))))
          ∗ marks c ∗ toks c) := by
  have h : iprop((bigSep Finset.univ fun x : CK => semVal (kcell (c, x)) 0)
        ∗ bigSep Finset.univ fun x : CK => roundState ER (sched (stA m) (stB m)) (kcell (c, x)) 0)
      ⊢ (|={Set.univ}=> bigSep Finset.univ fun x => iprop(∃ κ : ℕ, cellInv ER (sched (stA m) (stB m)) κ (kcell (c, x))) : sProp 𝕄) := by
    rw [← bigSep_sep']
    exact (bigSep_mono fun x _ => (Rounds.body_intro ER (sched (stA m) (stB m)) (kcell (c, x))).trans inv_alloc).trans (bigSep_fupd _ _)
  rw [ownSems0_eq, unscopedSems0_eq]
  unfold G
  iintro ⟨Hos, Hus, Hst, Hat, Htok⟩
  imod h $$ [Hos Hus Hst] with Hinv
  · isplitr [Hst]; rotate_left
    · iexact Hst
    rw [cells_eq]
    isplitl [Hus] <;> iassumption
  imodintro
  isplitl [Hinv]; · iexact Hinv
  isplitl [Hat] <;> iassumption

/-- Every token goes to the device that pays its duty. -/
theorem toks_around : (bigSep Finset.univ fun c : Dev nD => (toks c : sProp 𝕄)) ⊢ bigSep Finset.univ fun c : Dev nD => payToks c := by
  have hr : (bigSep Finset.univ fun c : Dev nD => bigSep Finset.univ fun i : Cp => (dutyTok ER (rCell c i) 0 0 : sProp 𝕄))
      = bigSep Finset.univ fun c : Dev nD => bigSep Finset.univ fun i : Cp => dutyTok ER (rCell (tgt (dir i.1) c) i) 0 0 := by
    rw [bigSep_univ_comm, bigSep_univ_comm fun (c : Dev nD) (i : Cp) => (dutyTok ER (rCell (tgt (dir i.1) c) i) 0 0 : sProp 𝕄)]
    exact bigSep_congr fun i _ => bigSep_univ_equiv (ring (dir i.1)) fun c : Dev nD => (dutyTok ER (rCell c i) 0 0 : sProp 𝕄)
  unfold toks payToks sendR
  simp only [sides_eq, bigSep_sep']
  rw [hr, bigSep_univ_equiv (ring 0).symm (fun c : Dev nD => (dutyTok ER (barCell c) 0 0 : sProp 𝕄)),
    bigSep_univ_equiv (ring 1).symm (fun c : Dev nD => (dutyTok ER (barCell c) 0 1 : sProp 𝕄))]
  exact BI.Entails.refl _

/-- A resource everyone may use, put into each of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names are chosen, and every device is given all the records. -/
theorem regroup :
    (bigSep Finset.univ fun c : Dev nD => iprop((bigSep Finset.univ fun x => iprop(∃ κ : ℕ, cellInv ER (sched (stA m) (stB m)) κ (kcell (c, x))))
          ∗ marks c ∗ toks c) : sProp 𝕄)
      ⊢ bigSep Finset.univ (G' m) := by
  unfold marks
  simp only [bigSep_sep']
  rw [← bigSep_univ_prod (fun cx : Dev nD × CK => iprop(∃ κ : ℕ, cellInv ER (sched (stA m) (stB m)) κ (kcell cx))),
    ← bigSep_univ_prod (fun cx : Dev nD × CK => (reached ER (kcell cx) 0 : sProp 𝕄))]
  iintro ⟨HI, ⟨Hat, #HR⟩, Htok⟩
  ihave HK := (BI.bigSep_exists_pi Finset.univ (fun (cx : Dev nD × CK) (κ : ℕ) => (cellInv ER (sched (stA m) (stB m)) κ (kcell cx) : sProp 𝕄))) $$ HI
  icases HK with ⟨%K, #HI⟩
  ihave Htk := (toks_around (F := F)) $$ Htok
  iapply (spread (R := iprop((bigSep Finset.univ fun ck : Dev nD × CK => cellInv ER (sched (stA m) (stB m)) (K ck) (kcell ck))
      ∗ bigSep Finset.univ fun ck : Dev nD × CK => reached ER (kcell ck) 0))
    (Φ := fun c : Dev nD => iprop((bigSep Finset.univ fun x : CK => atPos ER (kcell (c, x)) 0 ∅ 0) ∗ payToks c))
    (Ψ := G' m) fun c _ => by
      unfold G' ghost payToks
      iintro ⟨HR, Hat, Htk⟩
      iexists K
      isplitl [HR]; · iexact HR
      isplitl [Hat] <;> iassumption)
  isplitr
  · isplitr <;> iassumption
  · rw [bigSep_sep']; isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- One device of the ring owes a given one. -/
theorem sum_ring (e : Dev nD ≃ Dev nD) (c : Dev nD) (n : ℕ) : (∑ d : Dev nD, if c = e d then n else 0) = n := by
  rw [Finset.sum_congr rfl fun d _ => if_congr (show c = e d ↔ e.symm c = d from e.symm_apply_eq.symm) rfl rfl]
  rw [Finset.sum_ite_eq, if_pos (Finset.mem_univ _)]

/-- What a device owes one cell by another's duty: all or nothing. -/
theorem tally_cell (c c' : Dev nD) (x y : CK) (n : ℕ) :
    (tallyAt (kcell (c', y)) () n : CellTallies nD τ sig Unit) (kcell (c, x)) () = if c = c' then (if x = y then n else 0) else 0 := by
  rw [tallyAt_apply, ← ite_and]
  refine if_congr ⟨fun h => ?_, fun h => ?_⟩ rfl rfl
  · have e := kcell_injective h.1
    exact ⟨congrArg Prod.fst e, congrArg Prod.snd e⟩
  · rw [h.1, h.2]; exact ⟨rfl, rfl⟩

theorem owedL_recv (d c : Dev nD) (i : Cp) (l : List Cp) :
    owedL d l (rCell c i) () = if c = tgt (dir i.1) d then l.count i * N else 0 := by
  induction l with
  | nil => unfold owedL; rw [List.count_nil, Nat.zero_mul, ite_self]; rfl
  | cons j l ih =>
    unfold owedL
    rw [Pi.add_apply, Finsupp.add_apply, ih, tally_cell, List.count_cons]
    by_cases hj : j = i
    · subst hj
      rw [if_pos rfl, if_pos (beq_self_eq_true j)]
      split
      · rw [Nat.add_mul, Nat.one_mul]
      · rfl
    · have h1 : ¬ (some (true, i) : CK) = some (true, j) := fun h => hj (congrArg Prod.snd (Option.some.inj h)).symm
      rw [if_neg h1, if_neg (fun h => hj (eq_of_beq h)), ite_self, Nat.add_zero, Nat.add_zero]

theorem owedL_bar (d c : Dev nD) (l : List Cp) : owedL d l (barCell c) () = 0 := by
  induction l with
  | nil => rfl
  | cons j l ih =>
    unfold owedL
    rw [Pi.add_apply, Finsupp.add_apply, ih, tally_cell, if_neg (show ¬ (none : CK) = some (true, j) from nofun), ite_self]

theorem order_count : ∀ i : Cp, order.count i = 1 := by decide

theorem owed_recv (d c : Dev nD) (i : Cp) : O₀ d (rCell c i) () = if c = ring (dir i.1) d then N else 0 := by
  unfold O₀ O₁
  rw [Pi.add_apply, Finsupp.add_apply, Pi.add_apply, Finsupp.add_apply, owedL_recv, tally_cell, tally_cell, order_count, Nat.one_mul,
    if_neg (show ¬ (some (true, i) : CK) = none from nofun), ite_self, ite_self]
  rfl

theorem owed_bar (d c : Dev nD) : O₀ d (barCell c) () = (if c = (ring 1).symm d then 1 else 0) + (if c = (ring 0).symm d then 1 else 0) := by
  unfold O₀ O₁
  rw [Pi.add_apply, Finsupp.add_apply, Pi.add_apply, Finsupp.add_apply, owedL_bar, tally_cell, tally_cell, if_pos rfl, Nat.zero_add]
  rfl

/-- A cell's launch credit is what the devices owe it. -/
theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 2 : CellTallies nD τ sig Unit) :=
  launch_cell _ _ (by rw [Finset.sum_congr rfl fun d _ => owed_bar d c, Finset.sum_add_distrib, sum_ring, sum_ring])

theorem launch_recv (c : Dev nD) (i : Cp) : tallyOn (rCell c i) (launchCredit (Pipeline.owing O₀) 0 (rCell c i)) = (tallyAt (rCell c i) () N : CellTallies nD τ sig Unit) :=
  launch_cell _ _ (by rw [Finset.sum_congr rfl fun d _ => owed_recv d c i, sum_ring])

theorem creds (c : Dev nD) : (Pipeline.launchCred O₀ c : sProp 𝕄) ⊢ credits c := by
  unfold Pipeline.launchCred
  refine (bigSep_subset (t := Finset.univ.map ⟨csem, csem_injective⟩) (Finset.subset_univ _)).trans ?_
  rw [bigSep_map]
  show (bigSep Finset.univ fun x : CK => cred (tallyOn (kcell (c, x)) (launchCredit (Pipeline.owing O₀) 0 (kcell (c, x)))) : sProp 𝕄) ⊢ _
  unfold credits
  rw [cells_eq, sides_eq, launch_bar, bigSep_congr fun i _ => congrArg cred (launch_recv c i)]
  iintro ⟨HB, -, HV⟩
  isplitl [HB] <;> iassumption

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iapply (bufs_of_rest c); iexact Hr

theorem phi_last (c : Dev nD) :
    (dats m 0 c).Φ (Fin.last cfg0.N) ⊢ iprop(unscopedSems0 c ∗ Pipeline.ownSems0 osem c ∗ Pipeline.scopedRest cfg0.spec c) := by
  show bodyEnd c ⊢ _
  rw [ownSems0_eq, unscopedSems0_eq, sides_eq]
  unfold bodyEnd
  rw [bigSep_sep']
  iintro ⟨Hb, HzB, HzS, HzV⟩
  isplitl [HzB]; · iexact HzB
  isplitl [HzS HzV]
  · isplitl [HzS] <;> iassumption
  iapply (rest_of_bufs c); iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- From any memory with every counter at zero, the program runs to its end on every device; it ends with the windows'
    arrays at their computed contents and every counter at zero. -/
theorem run_main : θ_run defs (onTc (τ := τ) (main (F := F))) (s₀ m ρ)
    (fun r => (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal

end
-- ==== Proof.Frames.lean ====
/-
  What the run leaves: the arguments as they were, the result array at the computed blocks, every counter at zero;
  and from it the frames of the three programs.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Pipeline.Value

@[expose] public section

noncomputable section

namespace Cert.KernelIdeal

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- The left factor's one block is the device's whole argument array, -/
theorem stA_eq (c : Dev nD) : stA m c = m ((c : Thread nD τ).loc main_arg0) := by
  unfold stA iblk
  exact Memref.read_access_unit_zero (Elt F) main_arg0 (off := fun a => win0_0.index t0_0 a * main_arg0.ty.shape.size a)
    (funext fun a => by fin_cases a <;> decide) (fun a => by fin_cases a <;> decide) (m ((c : Thread nD τ).loc main_arg0))

/-- and so is the right factor's. -/
theorem stB_eq (c : Dev nD) : stB m c = m ((c : Thread nD τ).loc main_arg1) := by
  unfold stB iblk
  exact Memref.read_access_unit_zero (Elt F) main_arg1 (off := fun a => win0_1.index t0_0 a * main_arg1.ty.shape.size a)
    (funext fun a => by fin_cases a <;> decide) (fun a => by fin_cases a <;> decide) (m ((c : Thread nD τ).loc main_arg1))

/-- The result array ends at the device's computed blocks: its one block, the whole array, is written back once. -/
theorem final_out (c : Dev nD) : (dats m 0 c).arrAt 2 cfg0.N = outC m c := by
  have hr : (win0_2.blk t0_0).view.read (Elt F) ((dats m 0 c).arrAt 2 cfg0.N) = outC m c := by
    rw [show cfg0.N = (t0_0 : Fin cfg0.N).val + 1 from rfl, (dats m 0 c).arrAt_succ 2 t0_0, if_pos (flush0_2 t0_0)]
    exact View.read_write_univ _ _
  exact (Memref.read_access_unit_zero (Elt F) main_v1 (off := fun a => win0_2.index t0_0 a * main_v1.ty.shape.size a)
    (funext fun a => by fin_cases a <;> decide) (fun a => by fin_cases a <;> decide) _).symm.trans hr

/-- Every run ends with the result array at the computed blocks, both arguments as they were and every counter at zero. -/
theorem run_out : θ_run defs (onTc (τ := τ) (main (F := F))) ⟨m, fun _ => 0, ρ⟩ (fun r => (∀ c : Dev nD,
      r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (final_out m c), (h.1 c 0).trans ((dats m 0 c).arrAt_in 0 rfl _),
    (h.1 c 1).trans ((dats m 0 c).arrAt_in 1 rfl _)⟩, h.2⟩) (run_main m ρ)

end Cert.KernelIdeal

namespace Cert.Proof

open Idealize.ShloMosaic Idealize.ShloMosaic.TcCoe Idealize.SL.Sem

/-- The kernel over the extended reals ends, its arguments unchanged and its counters at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.run_out m ρ)

section Same

attribute [local instance] Cert.Kernel.Gen.facts Cert.KernelIdeal.Gen.facts

/-- Over the machine's words the two programs run the same body, -/
theorem body_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl

/-- so they have the same table of bodies. -/
theorem defs_same : Cert.Kernel.defs (F := Bits) = Cert.KernelIdeal.defs (F := Bits) :=
  congrArg (Pipeline.defs (Cert.KernelIdeal.pcfgs (F := Bits))) body_same

end Same

/-- So does the kernel over the machine's words: it is the same program. -/
theorem frame_kernel : Cert.quiescent_Kernel (hKernel := Cert.Kernel.Gen.facts) := fun m ρ _ => by
  have h := (θ_run Cert.KernelIdeal.defs _ _).mono (fun _ h => And.intro (fun c => (h.1 c).2) h.2) (Cert.KernelIdeal.run_out (F := Bits) m ρ)
  rw [← defs_same] at h
  exact h

/-- So does the reference, which has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Value.lean ====
/-
  The equation over the extended reals: every device's result is the reference's, `z / (1 + exp (-z))` of the product
  `z` of the whole factors.
-/
module

public import proofs.«01_k».proof.Proof.Frames
public import Idealize.ShloMosaic.Lib.MatmulPlain
public import Idealize.ShloMosaic.Lib.StackMember
public import Idealize.ShloMosaic.Lib.IdealHost
public import Idealize.ShloMosaic.Lib.Layout

@[expose] public section

noncomputable section

namespace Cert.KernelIdeal

open Idealize.ShloMosaic Idealize.ShloMosaic.TcCoe Idealize.ShloMosaic.ValueIdx
open Cert.KernelIdeal.Gen
open scoped BigOperators

/-! ## The gate -/

/-- An exponential is not negative. -/
theorem exp_ge (x : EReal) : 0 ≤ Ideal.exp x := by
  induction x with
  | bot => exact le_refl _
  | coe r => exact EReal.coe_nonneg.mpr (Real.exp_pos r).le
  | top => exact le_top

/-- The gate's denominator is not zero. -/
theorem denom_ne (x : EReal) : 1 + Ideal.exp (-x) ≠ 0 := fun e => by
  have h : (1 : EReal) ≤ 1 + Ideal.exp (-x) := le_add_of_nonneg_right (exp_ge _)
  rw [e] at h
  exact absurd h (by simp)

/-- `z` through its gate. -/
def gate (z : EReal) : EReal := Ideal.div z (1 + Ideal.exp (-z))

/-- `z` times its logistic is `z` through the gate, -/
theorem mul_logistic (z : EReal) : z * Ideal.logistic z = gate z := Ideal.mul_one_div (denom_ne z)

theorem siluF_apply (z : FVec Ideal S128x2048 .f32) (j : S128x2048.Idx) : siluF z j = gate (z j) := mul_logistic (z j)

/-! ## The product of one device's blocks -/

variable (A : Dev nD → Vec Ideal S2048x1024 .f32) (B : Dev nD → Vec Ideal S1024x2048 .f32)

/-- A device's part of element `i` of the product. -/
def part (i : S2048x2048.Idx) (d : Dev nD) : EReal := ∑ k : Fin 1024, (A d (ix2 (i 0) k) * B d (ix2 k (i 1)) : EReal)

/-- A chunk's product at an element. -/
theorem prodF_apply (a : Vec Ideal S256x1024 .f32) (b : Vec Ideal S1024x2048 .f32) (r : Fin 256) (q : Fin 2048) :
    prodF a b (ix2 r q) = ∑ k : Fin 1024, (a (ix2 r k) * b (ix2 k q) : EReal) := by
  unfold prodF
  rw [shapeCast_self, shapeCast_self]
  refine (Ideal.matmul_plain_apply none a b _ r q).trans ?_
  rw [show (constant S256x2048 .f32 0x00000000#32 : FVec Ideal S256x2048 .f32) (ix2 r q) = 0 from Ideal.ofBits_zero_f32, zero_add]

/-- Piece `p` of the chunk computed from the rows of block `c` of direction `δ` is that block's part of the product. -/
theorem half_part (δ : Fin 2) (c : Dev nD) (p : Fin 2) (d : Dev nD) (off : Fin 2 → ℕ) (h) (ho : off = ![1024 * δ.val + 256 * c.val, 0])
    (j : S128x2048.Idx) : halfF p (prodF (rowsA (A d) off h) (B d)) j = part A B ((blkR (δ, c, p)).emb j) d := by
  subst ho
  have hj : (j 0).val < 128 := (j 0).isLt
  have hp := p.isLt
  unfold halfF
  refine (extractStridedSlice_apply _ _ _ j (ix2 (⟨128 * p.val + (j 0).val, by omega⟩ : Fin 256) (j 1 : Fin 2048)) (fun a => by
    match a with
    | ⟨0, _⟩ => rfl
    | ⟨1, _⟩ => exact (Nat.zero_add _).symm)).trans ?_
  refine (prodF_apply _ _ _ _).trans ?_
  refine Finset.sum_congr rfl fun k _ => ?_
  congr 1
  · unfold rowsA
    congr 1
    funext a
    apply Fin.ext
    rw [Rect.emb_apply]
    match a with
    | ⟨0, _⟩ =>
      show 1024 * δ.val + 256 * c.val + 1 * (128 * p.val + (j 0).val) = 1024 * δ.val + 256 * c.val + 128 * p.val + 1 * (j 0).val
      omega
    | ⟨1, _⟩ => show 0 + 1 * k.val = k.val; omega
  · congr 1
    funext a
    apply Fin.ext
    match a with
    | ⟨0, _⟩ => rfl
    | ⟨1, _⟩ => show (j 1).val = 0 + 1 * (j 1).val; omega

/-! ## Around the ring -/

/-- Rows stored in a slot and read back are the same. -/
theorem wide_narrow (x : FVec Ideal S128x2048 .f32) : wideF (narrowF x) = x :=
  shapeCast_shapeCast x shapeCasts_S128x2048_S1x128x2048 shapeCasts_S1x128x2048_S128x2048

/-- What is added to an arrived piece, at an element. -/
theorem accF_narrow (p : Fin 2) (x : FVec Ideal S256x2048 .f32) (y : FVec Ideal S128x2048 .f32) (j : S128x2048.Idx) :
    accF p x (narrowF y) j = (y j + halfF p x j : EReal) := by
  unfold accF
  rw [wide_narrow]
  rfl

/-- The chunks added into block `c` on its way round are all of that block's rows: the start's, -/
theorem firstOff_at : ∀ (δ : Fin 2) (c : Dev nD), firstOff (org δ (org δ (org δ c))) δ = ![1024 * δ.val + 256 * c.val, 0] := by decide
/-- those of the three steps. -/
theorem addOff_at0 : ∀ (δ : Fin 2) (c : Dev nD), addOff (org δ (org δ c)) 0 δ = ![1024 * δ.val + 256 * c.val, 0] := by decide
theorem addOff_at1 : ∀ (δ : Fin 2) (c : Dev nD), addOff (org δ c) 1 δ = ![1024 * δ.val + 256 * c.val, 0] := by decide
theorem addOff_at2 : ∀ (δ : Fin 2) (c : Dev nD), addOff c 2 δ = ![1024 * δ.val + 256 * c.val, 0] := by decide

/-- The devices passed on the way round are all of them, -/
theorem round_bij : ∀ (δ : Fin 2) (c : Dev nD),
    Function.Bijective (![org δ (org δ (org δ c)), org δ (org δ c), org δ c, c] : Fin 4 → Dev nD) := by decide

/-- so what they add up to is the sum over all devices. -/
theorem round_sum (δ : Fin 2) (c : Dev nD) (f : Dev nD → EReal) :
    f (org δ (org δ (org δ c))) + f (org δ (org δ c)) + f (org δ c) + f c = ∑ d, f d := by
  rw [← (round_bij δ c).sum_comp f, Fin.sum_univ_four]
  rfl

/-- The rows device `c` finishes are the gate of the sum of all devices' parts. -/
theorem zC_apply (δ p : Fin 2) (c : Dev nD) (j : S128x2048.Idx) :
    zC A B δ p c j = gate (∑ d, part A B ((blkR (δ, c, p)).emb j) d) := by
  unfold zC
  rw [siluF_apply]
  refine congrArg gate ?_
  show accF p (addC A B δ 2 c) (narrowF (accF p (addC A B δ 1 (org δ c)) (narrowF (accF p (addC A B δ 0 (org δ (org δ c)))
    (narrowF (halfF p (firstC A B δ (org δ (org δ (org δ c)))))))))) j = _
  rw [accF_narrow, accF_narrow, accF_narrow]
  unfold firstC addC
  rw [half_part A B δ c p _ _ _ (firstOff_at δ c), half_part A B δ c p _ _ _ (addOff_at0 δ c),
    half_part A B δ c p _ _ _ (addOff_at1 δ c), half_part A B δ c p _ _ _ (addOff_at2 δ c)]
  exact round_sum δ c _

/-- Every device's result at an element is the gate of the sum of all devices' parts. -/
theorem out_apply (c : Dev nD) (i : S2048x2048.Idx) : whole (outT A B c) i = gate (∑ d, part A B i d) := by
  have e : outT A B c (blkOf i) = zC A B (blkOf i).1 (blkOf i).2.2 (blkOf i).2.1 := by
    unfold outT
    split
    next h => rw [h]
    next => exact wide_narrow _
  unfold whole
  rw [e, zC_apply]
  rw [show (blkR ((blkOf i).1, (blkOf i).2.1, (blkOf i).2.2)).emb (inBlk i) = i from emb_blk i]

end Cert.KernelIdeal

/-! ## The reference -/

namespace Cert.Proof

open Idealize.ShloMosaic Idealize.ShloMosaic.TcCoe Idealize.ShloMosaic.ValueIdx Idealize.SL.Sem
open scoped BigOperators

/-- The reference's result of two whole factors. -/
def refC (a : FVec Ideal Cert.ReferenceIdeal.S2048x4096 .f32) (b : FVec Ideal Cert.ReferenceIdeal.S4096x2048 .f32) :
    FVec Ideal Cert.ReferenceIdeal.S2048x2048 .f32 :=
  fun i => Cert.KernelIdeal.gate (∑ k : Fin 4096, (a (ix2 (i 0) k) * b (ix2 k (i 1)) : EReal))

/-- The sum over the contracted index is the sum over the devices of the sums over their blocks. -/
theorem sum_blocks (f : Fin 4096 → EReal) : ∑ d : Fin 4, ∑ k : Fin 1024, f ⟨d.val * 1024 + k.val, by omega⟩ = ∑ k, f k := by
  rw [← Fintype.sum_prod_type' (f := fun (d : Fin 4) (k : Fin 1024) => f ⟨d.val * 1024 + k.val, by omega⟩)]
  refine Fintype.sum_equiv (finProdFinEquiv (m := 4) (n := 1024)) _ _ fun x => congrArg f (Fin.ext ?_)
  show x.1.val * 1024 + x.2.val = x.2.val + 1024 * x.1.val
  omega

/-- The whole product at an element. -/
theorem dot_apply (a : FVec Ideal Cert.ReferenceIdeal.S2048x4096 .f32) (b : FVec Ideal Cert.ReferenceIdeal.S4096x2048 .f32)
    (i : Cert.ReferenceIdeal.S2048x2048.Idx) :
    Host.dotGeneral Cert.ReferenceIdeal.dot_S2048x4096_S4096x2048_S2048x2048_1_0_0_1_n_n none a b i
      = ∑ k : Fin 4096, (a (ix2 (i 0) k) * b (ix2 k (i 1)) : EReal) :=
  (congrArg (Host.dotGeneral (DotDims.plain 2048 4096 2048) none a b) (eq_ix2 i)).trans
    (StackMember.dotGeneral_plain_apply none a b (i 0) (i 1))

/-- The reference's operations compute it. -/
theorem ref_value (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c : Thread Cert.ReferenceIdeal.nD Cert.ReferenceIdeal.τ).loc Cert.ReferenceIdeal.main_v5)
          = refC (m ((c : Thread Cert.ReferenceIdeal.nD Cert.ReferenceIdeal.τ).loc Cert.ReferenceIdeal.main_arg0))
              (m ((c : Thread Cert.ReferenceIdeal.nD Cert.ReferenceIdeal.τ).loc Cert.ReferenceIdeal.main_arg1))
        ∧ r.2.mem ((c : Thread Cert.ReferenceIdeal.nD Cert.ReferenceIdeal.τ).loc Cert.ReferenceIdeal.main_arg0)
          = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1)
          = m ((c : Thread Cert.ReferenceIdeal.nD Cert.ReferenceIdeal.τ).loc Cert.ReferenceIdeal.main_arg1) := by
  refine (θ_run Cert.ReferenceIdeal.defs _ _).mono (fun r h c => ⟨(h c).1.trans ?_, (h c).2⟩) (Cert.ReferenceIdeal.Value.run m ρ)
  funext i
  generalize m ((c : Thread Cert.ReferenceIdeal.nD Cert.ReferenceIdeal.τ).loc Cert.ReferenceIdeal.main_arg0) = a
  generalize m ((c : Thread Cert.ReferenceIdeal.nD Cert.ReferenceIdeal.τ).loc Cert.ReferenceIdeal.main_arg1) = b
  exact congrArg₂ (fun z o => Ideal.div z (o + Ideal.exp (-z))) (dot_apply a b i) Ideal.ofBits_one_f32

/-- The kernel and the reference compute the same function over the extended reals. -/
theorem equal : Cert.algebraic_KernelIdeal_ReferenceIdeal (hKernelIdeal := Cert.KernelIdeal.Gen.facts)
    (hReferenceIdeal := Cert.ReferenceIdeal.Gen.facts) := by
  intro m g m' g' _ hargs
  refine ⟨_, ?_, (θ_run Cert.ReferenceIdeal.defs _ _).mono (fun r h => h 0) (ref_value m' g')⟩
  refine (θ_run Cert.KernelIdeal.defs _ _).mono (fun r h c => ⟨(h.1 c).1.trans ?_, (h.1 c).2⟩) (Cert.KernelIdeal.run_out m g)
  funext i
  unfold Cert.KernelIdeal.outC
  rw [Cert.KernelIdeal.out_apply]
  unfold refC
  refine congrArg Cert.KernelIdeal.gate (.trans ?_ (sum_blocks _))
  refine Finset.sum_congr rfl fun d _ => Finset.sum_congr rfl fun k _ => ?_
  rw [Cert.KernelIdeal.stA_eq, Cert.KernelIdeal.stB_eq, (hargs d).1, (hargs d).2]
  rw [Layout.block_apply, Layout.block_apply]
  congr 1
  · exact congrArg _ (funext fun a => Fin.ext (match a with | ⟨0, _⟩ => rfl | ⟨1, _⟩ => rfl))
  · exact congrArg _ (funext fun a => Fin.ext (match a with | ⟨0, _⟩ => rfl | ⟨1, _⟩ => rfl))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, the idealization, and the equation of kernel and reference. -/
theorem claim : Cert.Claim := ⟨Cert.Kernel.Gen.facts, Cert.KernelIdeal.Gen.facts, Cert.ReferenceIdeal.Gen.facts,
  frame_kernel, frame_ideal, frame_reference, trivial, equal⟩

end Cert.Proof

end
